-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_rows_with_weight [hKernelIdeal : Cert.KernelIdeal.Facts] [hReferenceIdeal : Cert.ReferenceIdeal.Facts] [hOn_rows_with_weight : Cert.On_rows_with_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![32]⟩ : Shape).Idx, (Cert.On_rows_with_weight.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![32]⟩ : Shape).Idx, (Cert.On_rows_with_weight.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v196) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_rows_with_weight : Cert.On_rows_with_weight.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_with_weight (hKernelIdeal := hKernelIdeal) (hReferenceIdeal := hReferenceIdeal) (hOn_rows_with_weight := hOn_rows_with_weight)
-- ==== On_rows_with_weight.lean ====
abbrev S32x1000000 : Shape := ⟨2, ![32, 1000000]⟩
abbrev S_ : Shape := ⟨0, ![]⟩
abbrev S32 : Shape := ⟨1, ![32]⟩

class Facts : Prop where
  reducesTo_S32x1000000_S32_d1 : S32x1000000.ReducesTo [1] S32
  h_S_ : 0 < S_.numel
  bcast_S_S32 : S_.BroadcastsInDim S32 (![] : Fin 0 → Fin S32.rank)

variable [Facts]

def fn {F : FTy → Type} [FloatOps F] (main_arg0 : FVec F S32x1000000 .f32) : IVec S32 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_cst_0 : FVec F S_ .f32 := constant S_ .f32 0xFF800000#32
  let main_v1 : FVec F S32 .f32 := broadcastInDim S32 ![] bcast_S_S32 main_cst_0
  let main_v2 : IVec S32 1 := cmpf .ogt main_v0 main_v1
  main_v2
-- ==== Kernel.lean ====
abbrev S32x1000000 : Shape := ⟨2, ![32, 1000000]⟩
abbrev S_ : Shape := ⟨0, ![]⟩
abbrev S32x640 : Shape := ⟨2, ![32, 640]⟩
abbrev S32x576 : Shape := ⟨2, ![32, 576]⟩
abbrev S32x128 : Shape := ⟨2, ![32, 128]⟩
abbrev S32x1 : Shape := ⟨2, ![32, 1]⟩
abbrev S32 : Shape := ⟨1, ![32]⟩
abbrev S32x16384 : Shape := ⟨2, ![32, 16384]⟩

abbrev nBuf : Space → Nat
  | .hbm => 15
  | .vmem => 6
  | .smem => 0
  | _ => 0

abbrev bufTy : (tb : Table) → Fin (tcTables nBuf tb) → BufTy
  | .hbm, ⟨0, _⟩ => ⟨S32x1000000, .f32⟩
  | .hbm, ⟨1, _⟩ => ⟨S_, .f32⟩
  | .hbm, ⟨2, _⟩ => ⟨S32x640, .f32⟩
  | .hbm, ⟨3, _⟩ => ⟨S32x576, .f32⟩
  | .hbm, ⟨4, _⟩ => ⟨S_, .i32⟩
  | .hbm, ⟨5, _⟩ => ⟨S_, .i32⟩
  | .hbm, ⟨6, _⟩ => ⟨S32x640, .f32⟩
  | .hbm, ⟨7, _⟩ => ⟨S32x128, .i32⟩
  | .hbm, ⟨8, _⟩ => ⟨S32x1, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .local _ .vmem, ⟨0, _⟩ => ⟨S32x16384, .f32⟩
  | .local _ .vmem, ⟨1, _⟩ => ⟨S32x16384, .f32⟩
  | .local _ .vmem, ⟨2, _⟩ => ⟨S32x640, .f32⟩
  | .local _ .vmem, ⟨3, _⟩ => ⟨S32x128, .i32⟩
  | .local _ .vmem, ⟨4, _⟩ => ⟨S32x128, .f32⟩
  | .local _ .vmem, ⟨5, _⟩ => ⟨S32x128, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_v7 : Ref sig .tc := ⟨.hbm, 12, rfl⟩
abbrev main_call0_v8 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![61], ![false]⟩

def k0_cond3 (i : grid0.Coords) : BitVec 1 :=
  let arg0 : BitVec 32 := BitVec.ofNat 32 (i 0).val
  let c60_i32_7155 : BitVec 32 := 60#32
  let v23184 : BitVec 1 := Scalar.cmpi .eq arg0 c60_i32_7155
  let v23185 : BitVec 32 := Scalar.extui v23184
  let c0_i32_7156 : BitVec 32 := 0#32
  let v23186 : BitVec 1 := Scalar.cmpi .ne v23185 c0_i32_7156
  v23186

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32x1000000 : Shape := ⟨2, ![32, 1000000]⟩
abbrev S_ : Shape := ⟨0, ![]⟩
abbrev S32 : Shape := ⟨1, ![32]⟩

abbrev nBuf : Space → Nat
  | .hbm => 266
  | .vmem => 0
  | .smem => 0
  | _ => 0

abbrev hbmTy0_0 (i : Nat) : BufTy := match i % 128 with
  | 0 => ⟨S32x1000000, .f32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S_, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S32x1000000, .i32⟩
  | 24 => ⟨S32x1000000, .i32⟩
  | 25 => ⟨S32x1000000, .i32⟩
  | 26 => ⟨S_, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S32x1000000, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S_, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_1 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S32x1000000, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S32x1000000, .i32⟩
  | 118 => ⟨S_, .i32⟩
  | 119 => ⟨S32x1000000, .i32⟩
  | 120 => ⟨S32x1000000, .i1⟩
  | 121 => ⟨S32x1000000, .f32⟩
  | 122 => ⟨S_, .f32⟩
  | 123 => ⟨S32x1000000, .f32⟩
  | 124 => ⟨S32x1000000, .f32⟩
  | 125 => ⟨S_, .f32⟩
  | 126 => ⟨S32x1000000, .f32⟩
  | 127 => ⟨S32x1000000, .f32⟩
  | _ => ⟨S32x1000000, .f32⟩

abbrev hbmTy0_2 (i : Nat) : BufTy := match i % 128 with
  | 0 => ⟨S32x1000000, .f32⟩
  | 1 => ⟨S32x1000000, .f32⟩
  | 2 => ⟨S32x1000000, .f32⟩
  | 3 => ⟨S32x1000000, .f32⟩
  | 4 => ⟨S32x1000000, .f32⟩
  | 5 => ⟨S32x1000000, .i32⟩
  | 6 => ⟨S_, .f32⟩
  | 7 => ⟨S_, .i32⟩
  | 8 => ⟨S32, .f32⟩
  | 9 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_9 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_11 : Ref sig .tc := ⟨.hbm, 52, rfl⟩
abbrev main_v39 : Ref sig .tc := ⟨.hbm, 53, rfl⟩
abbrev main_v40 : Ref sig .tc := ⟨.hbm, 54, rfl⟩
abbrev main_c_12 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_c_15 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_16 : Ref sig .tc := ⟨.hbm, 71, rfl⟩
abbrev main_v53 : Ref sig .tc := ⟨.hbm, 72, rfl⟩
abbrev main_v54 : Ref sig .tc := ⟨.hbm, 73, rfl⟩
abbrev main_c_17 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_18 : Ref sig .tc := ⟨.hbm, 80, rfl⟩
abbrev main_v60 : Ref sig .tc := ⟨.hbm, 81, rfl⟩
abbrev main_v61 : Ref sig .tc := ⟨.hbm, 82, rfl⟩
abbrev main_c_19 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_20 : Ref sig .tc := ⟨.hbm, 89, rfl⟩
abbrev main_v67 : Ref sig .tc := ⟨.hbm, 90, rfl⟩
abbrev main_v68 : Ref sig .tc := ⟨.hbm, 91, rfl⟩
abbrev main_c_21 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_22 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_c_24 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_25 : Ref sig .tc := ⟨.hbm, 107, rfl⟩
abbrev main_v80 : Ref sig .tc := ⟨.hbm, 108, rfl⟩
abbrev main_v81 : Ref sig .tc := ⟨.hbm, 109, rfl⟩
abbrev main_c_26 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_27 : Ref sig .tc := ⟨.hbm, 116, rfl⟩
abbrev main_v87 : Ref sig .tc := ⟨.hbm, 117, rfl⟩
abbrev main_v88 : Ref sig .tc := ⟨.hbm, 118, rfl⟩
abbrev main_c_28 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_29 : Ref sig .tc := ⟨.hbm, 125, rfl⟩
abbrev main_v94 : Ref sig .tc := ⟨.hbm, 126, rfl⟩
abbrev main_v95 : Ref sig .tc := ⟨.hbm, 127, rfl⟩
abbrev main_c_30 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_31 : Ref sig .tc := ⟨.hbm, 134, rfl⟩
abbrev main_v101 : Ref sig .tc := ⟨.hbm, 135, rfl⟩
abbrev main_v102 : Ref sig .tc := ⟨.hbm, 136, rfl⟩
abbrev main_c_32 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_c_34 : Ref sig .tc := ⟨.hbm, 145, rfl⟩
abbrev main_v109 : Ref sig .tc := ⟨.hbm, 146, rfl⟩
abbrev main_v110 : Ref sig .tc := ⟨.hbm, 147, rfl⟩
abbrev main_c_35 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_36 : Ref sig .tc := ⟨.hbm, 152, rfl⟩
abbrev main_v114 : Ref sig .tc := ⟨.hbm, 153, rfl⟩
abbrev main_v115 : Ref sig .tc := ⟨.hbm, 154, rfl⟩
abbrev main_c_37 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_38 : Ref sig .tc := ⟨.hbm, 161, rfl⟩
abbrev main_v121 : Ref sig .tc := ⟨.hbm, 162, rfl⟩
abbrev main_v122 : Ref sig .tc := ⟨.hbm, 163, rfl⟩
abbrev main_c_39 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_40 : Ref sig .tc := ⟨.hbm, 170, rfl⟩
abbrev main_v128 : Ref sig .tc := ⟨.hbm, 171, rfl⟩
abbrev main_v129 : Ref sig .tc := ⟨.hbm, 172, rfl⟩
abbrev main_c_41 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_42 : Ref sig .tc := ⟨.hbm, 179, rfl⟩
abbrev main_v135 : Ref sig .tc := ⟨.hbm, 180, rfl⟩
abbrev main_v136 : Ref sig .tc := ⟨.hbm, 181, rfl⟩
abbrev main_c_43 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_44 : Ref sig .tc := ⟨.hbm, 187, rfl⟩
abbrev main_v141 : Ref sig .tc := ⟨.hbm, 188, rfl⟩
abbrev main_v142 : Ref sig .tc := ⟨.hbm, 189, rfl⟩
abbrev main_c_45 : Ref sig .tc := ⟨.hbm, 190, rfl⟩
abbrev main_v143 : Ref sig .tc := ⟨.hbm, 191, rfl⟩
abbrev main_v144 : Ref sig .tc := ⟨.hbm, 192, rfl⟩
abbrev main_c_46 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_47 : Ref sig .tc := ⟨.hbm, 197, rfl⟩
abbrev main_v148 : Ref sig .tc := ⟨.hbm, 198, rfl⟩
abbrev main_v149 : Ref sig .tc := ⟨.hbm, 199, rfl⟩
abbrev main_c_48 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_49 : Ref sig .tc := ⟨.hbm, 206, rfl⟩
abbrev main_v155 : Ref sig .tc := ⟨.hbm, 207, rfl⟩
abbrev main_v156 : Ref sig .tc := ⟨.hbm, 208, rfl⟩
abbrev main_c_50 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_51 : Ref sig .tc := ⟨.hbm, 215, rfl⟩
abbrev main_v162 : Ref sig .tc := ⟨.hbm, 216, rfl⟩
abbrev main_v163 : Ref sig .tc := ⟨.hbm, 217, rfl⟩
abbrev main_c_52 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_c_53 : Ref sig .tc := ⟨.hbm, 224, rfl⟩
abbrev main_v169 : Ref sig .tc := ⟨.hbm, 225, rfl⟩
abbrev main_v170 : Ref sig .tc := ⟨.hbm, 226, rfl⟩
abbrev main_c_54 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_55 : Ref sig .tc := ⟨.hbm, 232, rfl⟩
abbrev main_v175 : Ref sig .tc := ⟨.hbm, 233, rfl⟩
abbrev main_v176 : Ref sig .tc := ⟨.hbm, 234, rfl⟩
abbrev main_c_56 : Ref sig .tc := ⟨.hbm, 235, rfl⟩
abbrev main_v177 : Ref sig .tc := ⟨.hbm, 236, rfl⟩
abbrev main_v178 : Ref sig .tc := ⟨.hbm, 237, rfl⟩
abbrev main_c_57 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c_58 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_c_59 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_cst : Ref sig .tc := ⟨.hbm, 250, rfl⟩
abbrev main_v188 : Ref sig .tc := ⟨.hbm, 251, rfl⟩
abbrev main_v189 : Ref sig .tc := ⟨.hbm, 252, rfl⟩
abbrev main_cst_60 : Ref sig .tc := ⟨.hbm, 253, rfl⟩
abbrev main_call0_v0 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_call1_v0 : Ref sig .tc := ⟨.hbm, 261, rfl⟩
abbrev main_call1_cst : Ref sig .tc := ⟨.hbm, 262, rfl⟩
abbrev main_call1_c : Ref sig .tc := ⟨.hbm, 263, rfl⟩
abbrev main_call1_v1_0 : Ref sig .tc := ⟨.hbm, 264, rfl⟩
abbrev main_v196 : Ref sig .tc := ⟨.hbm, 265, rfl⟩

abbrev nD : Nat := 1
abbrev τ : Topo := Topo.v7x

variable {F : FTy → Type} [FloatOps F]
-- ==== Proof.RefRun.lean ====
/-
  The run of the reference program (../ReferenceIdeal.lean: one device, a straight line of host operations, no kernel). The
  operations are listed in eight pieces: the counters; the five groups of four Threefry rounds, each with the key injection
  that ends it; the scores; the choice of the first largest score of each row. From any memory whose semaphore counters are
  zero the program terminates, and every buffer ends at the value these operations compute, one after the other, from the
  launch contents (`run_after`); the argument buffer is written by none of them (`arg0_keeps`).
-/
module

public import Idealize.ShloMosaic.Lib.StableHlo.Run
public import Idealize.ShloMosaic.Lib.Quiescent
public import proofs.«01_k».proof.Proof.Gen.ReferenceIdeal

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- A scalar spread over the whole array. -/
abbrev spread {α : Type} (x : (S_ : Shape).Idx → α) : (S32x1000000 : Shape).Idx → α :=
  broadcastInDim S32x1000000 ![] bcast_S_S32x1000000 x

/-- @main's operations that compute the counters, and the two input words of the cipher. -/
abbrev opsCount : List (HloOp τ sig (Elt F)) :=
  [ nullary main_v0 (iotaInDim S32x1000000 32 0),
    nullary main_v1 (iotaInDim S32x1000000 32 1),
    nullary main_c (constantI S_ 32 1000000#32),
    unary main_c main_v2 spread,
    binary main_v0 main_v2 main_v3 muli,
    binary main_v3 main_v1 main_v4 addi,
    unary main_v4 main_v5 id,
    nullary main_c_0 (constantI S_ 32 0#32),
    unary main_c_0 main_v6 spread,
    nullary main_c_1 (constantI S_ 32 0#32),
    unary main_c_1 main_v7 spread,
    binary main_v6 main_v7 main_v8 addi,
    nullary main_c_2 (constantI S_ 32 42#32),
    unary main_c_2 main_v9 spread,
    binary main_v5 main_v9 main_v10 addi ]

/-- @main's operations that compute the four rounds of group 1 and the key injection after them. -/
abbrev opsGroup1 : List (HloOp τ sig (Elt F)) :=
  [ binary main_v8 main_v10 main_v11 addi,
    nullary main_c_3 (constantI S_ 32 13#32),
    unary main_c_3 main_v12 spread,
    binary main_v10 main_v12 main_v13 Host.shli,
    nullary main_c_4 (constantI S_ 32 19#32),
    unary main_c_4 main_v14 spread,
    binary main_v10 main_v14 main_v15 Host.shrui,
    binary main_v13 main_v15 main_v16 ori,
    binary main_v11 main_v16 main_v17 xori,
    binary main_v11 main_v17 main_v18 addi,
    nullary main_c_5 (constantI S_ 32 15#32),
    unary main_c_5 main_v19 spread,
    binary main_v17 main_v19 main_v20 Host.shli,
    nullary main_c_6 (constantI S_ 32 17#32),
    unary main_c_6 main_v21 spread,
    binary main_v17 main_v21 main_v22 Host.shrui,
    binary main_v20 main_v22 main_v23 ori,
    binary main_v18 main_v23 main_v24 xori,
    binary main_v18 main_v24 main_v25 addi,
    nullary main_c_7 (constantI S_ 32 26#32),
    unary main_c_7 main_v26 spread,
    binary main_v24 main_v26 main_v27 Host.shli,
    nullary main_c_8 (constantI S_ 32 6#32),
    unary main_c_8 main_v28 spread,
    binary main_v24 main_v28 main_v29 Host.shrui,
    binary main_v27 main_v29 main_v30 ori,
    binary main_v25 main_v30 main_v31 xori,
    binary main_v25 main_v31 main_v32 addi,
    nullary main_c_9 (constantI S_ 32 6#32),
    unary main_c_9 main_v33 spread,
    binary main_v31 main_v33 main_v34 Host.shli,
    nullary main_c_10 (constantI S_ 32 26#32),
    unary main_c_10 main_v35 spread,
    binary main_v31 main_v35 main_v36 Host.shrui,
    binary main_v34 main_v36 main_v37 ori,
    binary main_v32 main_v37 main_v38 xori,
    nullary main_c_11 (constantI S_ 32 42#32),
    unary main_c_11 main_v39 spread,
    binary main_v32 main_v39 main_v40 addi,
    nullary main_c_12 (constantI S_ 32 466689008#32),
    unary main_c_12 main_v41 spread,
    binary main_v38 main_v41 main_v42 addi,
    nullary main_c_13 (constantI S_ 32 1#32),
    unary main_c_13 main_v43 spread,
    binary main_v42 main_v43 main_v44 addi ]

/-- @main's operations that compute the four rounds of group 2 and the key injection after them. -/
abbrev opsGroup2 : List (HloOp τ sig (Elt F)) :=
  [ binary main_v40 main_v44 main_v45 addi,
    nullary main_c_14 (constantI S_ 32 17#32),
    unary main_c_14 main_v46 spread,
    binary main_v44 main_v46 main_v47 Host.shli,
    nullary main_c_15 (constantI S_ 32 15#32),
    unary main_c_15 main_v48 spread,
    binary main_v44 main_v48 main_v49 Host.shrui,
    binary main_v47 main_v49 main_v50 ori,
    binary main_v45 main_v50 main_v51 xori,
    binary main_v45 main_v51 main_v52 addi,
    nullary main_c_16 (constantI S_ 32 29#32),
    unary main_c_16 main_v53 spread,
    binary main_v51 main_v53 main_v54 Host.shli,
    nullary main_c_17 (constantI S_ 32 3#32),
    unary main_c_17 main_v55 spread,
    binary main_v51 main_v55 main_v56 Host.shrui,
    binary main_v54 main_v56 main_v57 ori,
    binary main_v52 main_v57 main_v58 xori,
    binary main_v52 main_v58 main_v59 addi,
    nullary main_c_18 (constantI S_ 32 16#32),
    unary main_c_18 main_v60 spread,
    binary main_v58 main_v60 main_v61 Host.shli,
    nullary main_c_19 (constantI S_ 32 16#32),
    unary main_c_19 main_v62 spread,
    binary main_v58 main_v62 main_v63 Host.shrui,
    binary main_v61 main_v63 main_v64 ori,
    binary main_v59 main_v64 main_v65 xori,
    binary main_v59 main_v65 main_v66 addi,
    nullary main_c_20 (constantI S_ 32 24#32),
    unary main_c_20 main_v67 spread,
    binary main_v65 main_v67 main_v68 Host.shli,
    nullary main_c_21 (constantI S_ 32 8#32),
    unary main_c_21 main_v69 spread,
    binary main_v65 main_v69 main_v70 Host.shrui,
    binary main_v68 main_v70 main_v71 ori,
    binary main_v66 main_v71 main_v72 xori,
    nullary main_c_22 (constantI S_ 32 466689008#32),
    unary main_c_22 main_v73 spread,
    binary main_v66 main_v73 main_v74 addi,
    nullary main_c_23 (constantI S_ 32 0#32),
    unary main_c_23 main_v75 spread,
    binary main_v72 main_v75 main_v76 addi,
    nullary main_c_24 (constantI S_ 32 2#32),
    unary main_c_24 main_v77 spread,
    binary main_v76 main_v77 main_v78 addi ]

/-- @main's operations that compute the four rounds of group 3 and the key injection after them. -/
abbrev opsGroup3 : List (HloOp τ sig (Elt F)) :=
  [ binary main_v74 main_v78 main_v79 addi,
    nullary main_c_25 (constantI S_ 32 13#32),
    unary main_c_25 main_v80 spread,
    binary main_v78 main_v80 main_v81 Host.shli,
    nullary main_c_26 (constantI S_ 32 19#32),
    unary main_c_26 main_v82 spread,
    binary main_v78 main_v82 main_v83 Host.shrui,
    binary main_v81 main_v83 main_v84 ori,
    binary main_v79 main_v84 main_v85 xori,
    binary main_v79 main_v85 main_v86 addi,
    nullary main_c_27 (constantI S_ 32 15#32),
    unary main_c_27 main_v87 spread,
    binary main_v85 main_v87 main_v88 Host.shli,
    nullary main_c_28 (constantI S_ 32 17#32),
    unary main_c_28 main_v89 spread,
    binary main_v85 main_v89 main_v90 Host.shrui,
    binary main_v88 main_v90 main_v91 ori,
    binary main_v86 main_v91 main_v92 xori,
    binary main_v86 main_v92 main_v93 addi,
    nullary main_c_29 (constantI S_ 32 26#32),
    unary main_c_29 main_v94 spread,
    binary main_v92 main_v94 main_v95 Host.shli,
    nullary main_c_30 (constantI S_ 32 6#32),
    unary main_c_30 main_v96 spread,
    binary main_v92 main_v96 main_v97 Host.shrui,
    binary main_v95 main_v97 main_v98 ori,
    binary main_v93 main_v98 main_v99 xori,
    binary main_v93 main_v99 main_v100 addi,
    nullary main_c_31 (constantI S_ 32 6#32),
    unary main_c_31 main_v101 spread,
    binary main_v99 main_v101 main_v102 Host.shli,
    nullary main_c_32 (constantI S_ 32 26#32),
    unary main_c_32 main_v103 spread,
    binary main_v99 main_v103 main_v104 Host.shrui,
    binary main_v102 main_v104 main_v105 ori,
    binary main_v100 main_v105 main_v106 xori,
    nullary main_c_33 (constantI S_ 32 0#32),
    unary main_c_33 main_v107 spread,
    binary main_v100 main_v107 main_v108 addi,
    nullary main_c_34 (constantI S_ 32 42#32),
    unary main_c_34 main_v109 spread,
    binary main_v106 main_v109 main_v110 addi,
    nullary main_c_35 (constantI S_ 32 3#32),
    unary main_c_35 main_v111 spread,
    binary main_v110 main_v111 main_v112 addi ]

/-- @main's operations that compute the four rounds of group 4 and the key injection after them. -/
abbrev opsGroup4 : List (HloOp τ sig (Elt F)) :=
  [ binary main_v108 main_v112 main_v113 addi,
    nullary main_c_36 (constantI S_ 32 17#32),
    unary main_c_36 main_v114 spread,
    binary main_v112 main_v114 main_v115 Host.shli,
    nullary main_c_37 (constantI S_ 32 15#32),
    unary main_c_37 main_v116 spread,
    binary main_v112 main_v116 main_v117 Host.shrui,
    binary main_v115 main_v117 main_v118 ori,
    binary main_v113 main_v118 main_v119 xori,
    binary main_v113 main_v119 main_v120 addi,
    nullary main_c_38 (constantI S_ 32 29#32),
    unary main_c_38 main_v121 spread,
    binary main_v119 main_v121 main_v122 Host.shli,
    nullary main_c_39 (constantI S_ 32 3#32),
    unary main_c_39 main_v123 spread,
    binary main_v119 main_v123 main_v124 Host.shrui,
    binary main_v122 main_v124 main_v125 ori,
    binary main_v120 main_v125 main_v126 xori,
    binary main_v120 main_v126 main_v127 addi,
    nullary main_c_40 (constantI S_ 32 16#32),
    unary main_c_40 main_v128 spread,
    binary main_v126 main_v128 main_v129 Host.shli,
    nullary main_c_41 (constantI S_ 32 16#32),
    unary main_c_41 main_v130 spread,
    binary main_v126 main_v130 main_v131 Host.shrui,
    binary main_v129 main_v131 main_v132 ori,
    binary main_v127 main_v132 main_v133 xori,
    binary main_v127 main_v133 main_v134 addi,
    nullary main_c_42 (constantI S_ 32 24#32),
    unary main_c_42 main_v135 spread,
    binary main_v133 main_v135 main_v136 Host.shli,
    nullary main_c_43 (constantI S_ 32 8#32),
    unary main_c_43 main_v137 spread,
    binary main_v133 main_v137 main_v138 Host.shrui,
    binary main_v136 main_v138 main_v139 ori,
    binary main_v134 main_v139 main_v140 xori,
    nullary main_c_44 (constantI S_ 32 42#32),
    unary main_c_44 main_v141 spread,
    binary main_v134 main_v141 main_v142 addi,
    nullary main_c_45 (constantI S_ 32 466689008#32),
    unary main_c_45 main_v143 spread,
    binary main_v140 main_v143 main_v144 addi,
    nullary main_c_46 (constantI S_ 32 4#32),
    unary main_c_46 main_v145 spread,
    binary main_v144 main_v145 main_v146 addi ]

/-- @main's operations that compute the four rounds of group 5 and the key injection after them. -/
abbrev opsGroup5 : List (HloOp τ sig (Elt F)) :=
  [ binary main_v142 main_v146 main_v147 addi,
    nullary main_c_47 (constantI S_ 32 13#32),
    unary main_c_47 main_v148 spread,
    binary main_v146 main_v148 main_v149 Host.shli,
    nullary main_c_48 (constantI S_ 32 19#32),
    unary main_c_48 main_v150 spread,
    binary main_v146 main_v150 main_v151 Host.shrui,
    binary main_v149 main_v151 main_v152 ori,
    binary main_v147 main_v152 main_v153 xori,
    binary main_v147 main_v153 main_v154 addi,
    nullary main_c_49 (constantI S_ 32 15#32),
    unary main_c_49 main_v155 spread,
    binary main_v153 main_v155 main_v156 Host.shli,
    nullary main_c_50 (constantI S_ 32 17#32),
    unary main_c_50 main_v157 spread,
    binary main_v153 main_v157 main_v158 Host.shrui,
    binary main_v156 main_v158 main_v159 ori,
    binary main_v154 main_v159 main_v160 xori,
    binary main_v154 main_v160 main_v161 addi,
    nullary main_c_51 (constantI S_ 32 26#32),
    unary main_c_51 main_v162 spread,
    binary main_v160 main_v162 main_v163 Host.shli,
    nullary main_c_52 (constantI S_ 32 6#32),
    unary main_c_52 main_v164 spread,
    binary main_v160 main_v164 main_v165 Host.shrui,
    binary main_v163 main_v165 main_v166 ori,
    binary main_v161 main_v166 main_v167 xori,
    binary main_v161 main_v167 main_v168 addi,
    nullary main_c_53 (constantI S_ 32 6#32),
    unary main_c_53 main_v169 spread,
    binary main_v167 main_v169 main_v170 Host.shli,
    nullary main_c_54 (constantI S_ 32 26#32),
    unary main_c_54 main_v171 spread,
    binary main_v167 main_v171 main_v172 Host.shrui,
    binary main_v170 main_v172 main_v173 ori,
    binary main_v168 main_v173 main_v174 xori,
    nullary main_c_55 (constantI S_ 32 466689008#32),
    unary main_c_55 main_v175 spread,
    binary main_v168 main_v175 main_v176 addi,
    nullary main_c_56 (constantI S_ 32 0#32),
    unary main_c_56 main_v177 spread,
    binary main_v174 main_v177 main_v178 addi,
    nullary main_c_57 (constantI S_ 32 5#32),
    unary main_c_57 main_v179 spread,
    binary main_v178 main_v179 main_v180 addi ]

/-- @main's operations that compute the uniform draw, the Gumbel noise and the scores. -/
abbrev opsScore : List (HloOp τ sig (Elt F)) :=
  [ binary main_v176 main_v180 main_v181 xori,
    nullary main_c_58 (constantI S_ 32 9#32),
    unary main_c_58 main_v182 spread,
    binary main_v181 main_v182 main_v183 Host.shrui,
    unary main_v183 main_v184 id,
    nullary main_c_59 (constantI S_ 32 0#32),
    unary main_c_59 main_v185 spread,
    binary main_v184 main_v185 main_v186 (cmpi .eq),
    unary main_v184 main_v187 (sitofp .f32),
    nullary main_cst (constant S_ .f32 0x34000000#32),
    unary main_cst main_v188 spread,
    binary main_v187 main_v188 main_v189 mulf,
    nullary main_cst_60 (constant S_ .f32 0x00800000#32),
    unary main_cst_60 main_call0_v0 spread,
    ternary main_v186 main_call0_v0 main_v189 main_v190 select,
    unary main_v190 main_v191 Host.log,
    unary main_v191 main_v192 Host.negf,
    unary main_v192 main_v193 Host.log,
    unary main_v193 main_v194 Host.negf,
    binary main_arg0 main_v194 main_v195 addf ]

/-- @main's operations that compute the first largest score of each row. -/
abbrev opsPick : List (HloOp τ sig (Elt F)) :=
  [ nullary main_call1_v0 (iotaInDim S32x1000000 32 1),
    nullary main_call1_cst (constant S_ .f32 0xFF800000#32),
    nullary main_call1_c (constantI S_ 32 0#32),
    quaternary main_v195 main_call1_v0 main_call1_cst main_call1_c main_call1_v1_0 (fun x y u v j => (Host.argReduce reducer_argmax_f32_i32 x y u v reducesTo_S32x1000000_S32_d1 h_S_ j).1),
    quaternary main_v195 main_call1_v0 main_call1_cst main_call1_c main_v196 (fun x y u v j => (Host.argReduce reducer_argmax_f32_i32 x y u v reducesTo_S32x1000000_S32_d1 h_S_ j).2) ]

/-- @main's operations, in order. -/
abbrev ops : List (HloOp τ sig (Elt F)) :=
  opsCount ++ (opsGroup1 ++ (opsGroup2 ++ (opsGroup3 ++ (opsGroup4 ++ (opsGroup5 ++ (opsScore ++ (opsPick)))))))

set_option maxRecDepth 65536 in
set_option maxHeartbeats 4000000 in
/-- @main is that straight line. -/
theorem main_eq (c : Dev nD) : main (F := F) c = seq ops := rfl

/-- Two lines one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- No buffer is scoped on this signature. -/
theorem scopedRefs_eq : (Finset.univ.filter fun b : Ref sig .tc => b.isScoped) = ∅ := by decide
/-- And no semaphore is. -/
theorem scopedSems_eq : (Finset.univ.filter fun sm : SemLoc sig => sm.isScoped .tc) = ∅ := by decide

/-- The operations of the counters touch TensorCore references only. -/
theorem opsCount_sub : (opsCount : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., nullary_bufs_sub .., unary_bufs_sub .., binary_bufs_sub .., nullary_bufs_sub .., unary_bufs_sub .., binary_bufs_sub ..⟩
/-- The operations of the first group touch TensorCore references only. -/
theorem opsGroup1_sub : (opsGroup1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- The operations of the second group touch TensorCore references only. -/
theorem opsGroup2_sub : (opsGroup2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- The operations of the third group touch TensorCore references only. -/
theorem opsGroup3_sub : (opsGroup3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- The operations of the fourth group touch TensorCore references only. -/
theorem opsGroup4_sub : (opsGroup4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- The operations of the fifth group touch TensorCore references only. -/
theorem opsGroup5_sub : (opsGroup5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- The operations of the scores touch TensorCore references only. -/
theorem opsScore_sub : (opsScore : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., ternary_bufs_sub .., unary_bufs_sub .., unary_bufs_sub .., unary_bufs_sub .., unary_bufs_sub .., binary_bufs_sub ..⟩
/-- The operations of the choice touch TensorCore references only. -/
theorem opsPick_sub : (opsPick : List (HloOp τ sig (Elt F))).Forall fun op => op.bufs ⊆ tcRefs τ sig :=
  ⟨nullary_bufs_sub .., nullary_bufs_sub .., nullary_bufs_sub .., quaternary_bufs_sub .., quaternary_bufs_sub ..⟩

/-- Every operation touches TensorCore references only. -/
theorem ops_sub : (ops : List (HloOp τ sig (Elt F))).Forall fun op => op.bufs ⊆ tcRefs τ sig :=
  List.forall_append.mpr ⟨opsCount_sub, List.forall_append.mpr ⟨opsGroup1_sub, List.forall_append.mpr ⟨opsGroup2_sub, List.forall_append.mpr ⟨opsGroup3_sub, List.forall_append.mpr ⟨opsGroup4_sub, List.forall_append.mpr ⟨opsGroup5_sub, List.forall_append.mpr ⟨opsScore_sub, opsPick_sub⟩⟩⟩⟩⟩⟩⟩

/-- From any memory with zero counters @main terminates, every buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The operations of the counters leave the argument buffer as it is. -/
theorem opsCount_arg0 (V : Valuation τ sig (Elt F)) :
    after opsCount V (main_arg0 : DevRef τ sig) = V (main_arg0 : DevRef τ sig) := by
  after_results_simp
/-- The operations of the first group leave the argument buffer as it is. -/
theorem opsGroup1_arg0 (V : Valuation τ sig (Elt F)) :
    after opsGroup1 V (main_arg0 : DevRef τ sig) = V (main_arg0 : DevRef τ sig) := by
  after_results_simp
/-- The operations of the second group leave the argument buffer as it is. -/
theorem opsGroup2_arg0 (V : Valuation τ sig (Elt F)) :
    after opsGroup2 V (main_arg0 : DevRef τ sig) = V (main_arg0 : DevRef τ sig) := by
  after_results_simp
/-- The operations of the third group leave the argument buffer as it is. -/
theorem opsGroup3_arg0 (V : Valuation τ sig (Elt F)) :
    after opsGroup3 V (main_arg0 : DevRef τ sig) = V (main_arg0 : DevRef τ sig) := by
  after_results_simp
/-- The operations of the fourth group leave the argument buffer as it is. -/
theorem opsGroup4_arg0 (V : Valuation τ sig (Elt F)) :
    after opsGroup4 V (main_arg0 : DevRef τ sig) = V (main_arg0 : DevRef τ sig) := by
  after_results_simp
/-- The operations of the fifth group leave the argument buffer as it is. -/
theorem opsGroup5_arg0 (V : Valuation τ sig (Elt F)) :
    after opsGroup5 V (main_arg0 : DevRef τ sig) = V (main_arg0 : DevRef τ sig) := by
  after_results_simp
/-- The operations of the scores leave the argument buffer as it is. -/
theorem opsScore_arg0 (V : Valuation τ sig (Elt F)) :
    after opsScore V (main_arg0 : DevRef τ sig) = V (main_arg0 : DevRef τ sig) := by
  after_results_simp
/-- The operations of the choice leave the argument buffer as it is. -/
theorem opsPick_arg0 (V : Valuation τ sig (Elt F)) :
    after opsPick V (main_arg0 : DevRef τ sig) = V (main_arg0 : DevRef τ sig) := by
  after_results_simp

/-- No operation writes the argument buffer. -/
theorem arg0_keeps (V : Valuation τ sig (Elt F)) :
    after ops V (main_arg0 : DevRef τ sig) = V (main_arg0 : DevRef τ sig) := by
  simp only [ops, after_two]
  rw [opsPick_arg0, opsScore_arg0, opsGroup5_arg0, opsGroup4_arg0, opsGroup3_arg0, opsGroup2_arg0, opsGroup1_arg0, opsCount_arg0]

/-- The frame: the program terminates, its argument is unchanged, and it declares no semaphore. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun r h => ⟨fun c => (h c main_arg0).trans (arg0_keeps _),
      sem_eq_zero_of_no_sems (by decide) r.2⟩) (run_after m ρ)

end Cert.Proof.RefRun

end
-- ==== Proof.Block.lean ====
module

public import proofs.«01_k».proof.Proof.Gen.KernelIdeal.Frame

@[expose] public section

set_option maxRecDepth 65536

noncomputable section

/-! # What one grid point of the kernel computes, as vectors

The 32 x 128 vectors of the kernel's body: the random bits of a slice's counters, the slice's scores, the running
maximum of a chain of slices, and the merge of the chains into the accumulator. -/

namespace Cert.Proof.Block

open Idealize.ShloMosaic Idealize.ShloMosaic.TcCoe Idealize.ShloMosaic.Tactic
open Cert.KernelIdeal Cert.KernelIdeal.Gen

variable {F : FTy → Type} [FloatOps F]

/-- Every word rotated left, spelt with the two shift amounts. -/
def rotl (l r : BitVec 32) (x : IVec S32x128 32) : IVec S32x128 32 :=
  ori (shli x (broadcast S32x128 l)) (shrui x (broadcast S32x128 r))

/-- One round of the cipher on the pair of words. -/
def turn (l r : BitVec 32) (p : IVec S32x128 32 × IVec S32x128 32) : IVec S32x128 32 × IVec S32x128 32 :=
  (addi p.1 p.2, xori (rotl l r p.2) (addi p.1 p.2))

/-- A key injection into both words. -/
def inject (a b : BitVec 32) (p : IVec S32x128 32 × IVec S32x128 32) : IVec S32x128 32 × IVec S32x128 32 :=
  (addi p.1 (broadcast S32x128 a), addi p.2 (broadcast S32x128 b))

/-- The rounds of the odd groups after their first one. -/
def oddTail (p : IVec S32x128 32 × IVec S32x128 32) : IVec S32x128 32 × IVec S32x128 32 :=
  turn 6#32 26#32 (turn 26#32 6#32 (turn 15#32 17#32 p))

/-- The rounds of the even groups. -/
def evenRounds (p : IVec S32x128 32 × IVec S32x128 32) : IVec S32x128 32 × IVec S32x128 32 :=
  turn 24#32 8#32 (turn 16#32 16#32 (turn 29#32 3#32 (turn 17#32 15#32 p)))

/-- The pair of words after the first group and its key injection. -/
def words1 (x : IVec S32x128 32) : IVec S32x128 32 × IVec S32x128 32 :=
  inject 42#32 466689009#32 (oddTail (x, xori (rotl 13#32 19#32 x) x))

/-- After the second group. -/
def words2 (x : IVec S32x128 32) : IVec S32x128 32 × IVec S32x128 32 :=
  inject 466689008#32 2#32 (evenRounds (words1 x))

/-- After the third group: only the second word's key is not zero. -/
def words3 (x : IVec S32x128 32) : IVec S32x128 32 × IVec S32x128 32 :=
  ((oddTail (turn 13#32 19#32 (words2 x))).1,
    addi (oddTail (turn 13#32 19#32 (words2 x))).2 (broadcast S32x128 45#32))

/-- After the fourth group. -/
def words4 (x : IVec S32x128 32) : IVec S32x128 32 × IVec S32x128 32 :=
  inject 42#32 466689012#32 (evenRounds (words3 x))

/-- After the fifth group. -/
def words5 (x : IVec S32x128 32) : IVec S32x128 32 × IVec S32x128 32 :=
  inject 466689008#32 5#32 (oddTail (turn 13#32 19#32 (words4 x)))

/-- The random bits of the counters `x`. -/
def bits (x : IVec S32x128 32) : IVec S32x128 32 := xori (words5 x).1 (words5 x).2

/-- The uniform draw of the random bits. -/
def draw (b : IVec S32x128 32) : FVec F S32x128 .f32 :=
  maximumf
    (subf (bitcastToFloat .f32 (ori (shrui b (broadcast S32x128 9#32)) (broadcast S32x128 1065353216#32)))
      (broadcast S32x128 (Scalar.ofBits .f32 1065353216#32)))
    (broadcast S32x128 (Scalar.ofBits .f32 8388608#32))

/-- Zero minus the logarithm. -/
def negLog (x : FVec F S32x128 .f32) : FVec F S32x128 .f32 :=
  subf (broadcast S32x128 (Scalar.ofBits .f32 0#32)) (log x)

/-- A slice's scores: the log-weights plus the Gumbel noise of the counters. -/
def score (lp : FVec F S32x128 .f32) (x : IVec S32x128 32) : FVec F S32x128 .f32 :=
  addf lp (negLog (negLog (draw (bits x))))

/-- The second pair where its value is above the first's, the first elsewhere. -/
def better (old new : FVec F S32x128 .f32 × IVec S32x128 32) : FVec F S32x128 .f32 × IVec S32x128 32 :=
  (select (cmpf .ogt new.1 old.1) new.1 old.1, select (cmpf .ogt new.1 old.1) new.2 old.2)

/-- Lane `(r, l)` of the pattern: the counter `1000000 r + l + 42`. -/
def pattern : IVec S32x128 32 :=
  addi (addi (muli (iota .tc S32x128 32 [0] iota_S32x128_d0_w32) (broadcast S32x128 1000000#32))
    (iota .tc S32x128 32 [1] iota_S32x128_d1_w32)) (broadcast S32x128 42#32)

/-- The counters of the slice at column `base + 128 s`. -/
def counters (base : BitVec 32) (s : ℕ) : IVec S32x128 32 :=
  addi pattern (broadcast S32x128 (Scalar.addi base (BitVec.ofNat 32 (128 * s))))

/-- Slice `s` of a block: its scores and its counters. -/
def entry (ld : ℕ → FVec F S32x128 .f32) (base : BitVec 32) (s : ℕ) : FVec F S32x128 .f32 × IVec S32x128 32 :=
  (score (ld s) (counters base s), counters base s)

/-- The best of the slices `start, …, start + n`. -/
def chain (ld : ℕ → FVec F S32x128 .f32) (base : BitVec 32) (start : ℕ) : ℕ → FVec F S32x128 .f32 × IVec S32x128 32
  | 0 => entry ld base start
  | n + 1 => better (chain ld base start n) (entry ld base (start + (n + 1)))

/-- The four chains of a block merged into what the accumulator held. -/
def merged (ld : ℕ → FVec F S32x128 .f32) (base : BitVec 32) (acc : FVec F S32x128 .f32 × IVec S32x128 32) :
    FVec F S32x128 .f32 × IVec S32x128 32 :=
  better (better (better (better acc (chain ld base 0 31)) (chain ld base 32 31)) (chain ld base 64 31))
    (chain ld base 96 31)

/-- Slice `s` lies inside the block. -/
theorem slice_inb {s : ℕ} (h : s < 128) (a : Fin 2) :
    (![0, 128 * s] : Fin 2 → ℕ) a + S32x128.size a ≤ S32x16384.size a := by
  fin_cases a
  · exact le_refl 32
  · show 128 * s + 128 ≤ 16384
    omega

/-- Slice `s` of the staged block, read through the memref (the slices stop at 127). -/
def slice (arg1 : Memref sig .tc .vmem S32x16384 .f32) (harg1 : arg1.IsWhole) (c : Dev nD)
    (x0 : Vec F S32x16384 .f32) (s : ℕ) : FVec F S32x128 .f32 :=
  if h : s < 128 then
    View.readAt (Elt F) arg1.view (Rect.unit (s := S32x16384) ![0, 128 * s] S32x128.size (slice_inb h)).toLoadRect
      (harg1.unread x0)
  else broadcast S32x128 (Scalar.ofBits .f32 0#32)

/-- The tail slices lie inside the tail. -/
theorem tailSlice_inb {s : ℕ} (h : s < 5) (a : Fin 2) :
    (![0, 128 * s] : Fin 2 → ℕ) a + S32x128.size a ≤ S32x640.size a := by
  fin_cases a
  · exact le_refl 32
  · show 128 * s + 128 ≤ 640
    omega

/-- Slice `s` of the staged tail, read through the memref (the slices stop at 4). -/
def tailSlice (arg2 : Memref sig .tc .vmem S32x640 .f32) (harg2 : arg2.IsWhole) (c : Dev nD)
    (x1 : Vec F S32x640 .f32) (s : ℕ) : FVec F S32x128 .f32 :=
  if h : s < 5 then
    shapeCast S32x128 (View.readAt (Elt F) arg2.view
      (Rect.unit (s := S32x640) ![0, 128 * s] S32x128.size (tailSlice_inb h)).toLoadRect (harg2.unread x1))
      shapeCasts_S32x128_S32x128
  else broadcast S32x128 (Scalar.ofBits .f32 0#32)

/-- The first `n` slices of the tail folded into `p`. -/
def withTail (ld : ℕ → FVec F S32x128 .f32) (p : FVec F S32x128 .f32 × IVec S32x128 32) :
    ℕ → FVec F S32x128 .f32 × IVec S32x128 32
  | 0 => p
  | n + 1 => better (withTail ld p n) (entry ld 999424#32 n)

/-- The last step: in each row, the least of the counters whose score is the row's greatest, less 42, in every lane. -/
def finish (p : FVec F S32x128 .f32 × IVec S32x128 32) : IVec S32x128 32 :=
  broadcastTo S32x128
    (shapeCast S32x1
      (subi
        (shapeCast S32x1
          (multiReductionI .minsi [1] S32
            (select
              (cmpf .oge p.1
                (broadcastTo S32x128
                  (shapeCast S32x1
                    (multiReduction .maximumf [1] S32 p.1 0xFF800000#32 reduces_S32x128_S32 (.inl rfl) rfl)
                    shapeCasts_S32_S32x1)
                  broadcasts_S32x1_S32x128))
              p.2 (broadcast S32x128 2147483647#32))
            2147483647#32 reduces_S32x128_S32 rfl)
          shapeCasts_S32_S32x1)
        (broadcast S32x1 42#32))
      shapeCasts_S32x1_S32x1)
    broadcasts_S32x1_S32x128

/-- The column a grid point's block starts at. -/
def base (i : grid0.Coords) : BitVec 32 := Scalar.muli (BitVec.ofNat 32 (i 0).val) 16384#32

/-- The whole 32 x 128 rectangle. -/
abbrev whole : Rect S32x128 := Rect.unit ![0, 0] S32x128.size inb_S32x128_S32x128_0_0

/-- The accumulator's values as it starts: minus infinity everywhere. -/
def low : FVec F S32x128 .f32 :=
  shapeCast S32x128 (broadcast S32x128 (Scalar.ofBits .f32 0xFF800000#32)) shapeCasts_S32x128_S32x128

/-- The accumulator's indices as it starts: zero everywhere. -/
def zeros : IVec S32x128 32 := shapeCast S32x128 (broadcast S32x128 0#32) shapeCasts_S32x128_S32x128

variable (c : Dev nD) (i : grid0.Coords)
  (arg1 : Memref sig .tc .vmem S32x16384 .f32) (harg1 : arg1.IsWhole)
  (arg2 : Memref sig .tc .vmem S32x640 .f32) (harg2 : arg2.IsWhole)
  (arg3 : Memref sig .tc .vmem S32x128 .i32) (harg3 : arg3.IsWhole)
  (arg4 : Memref sig .tc .vmem S32x128 .f32) (harg4 : arg4.IsWhole)
  (arg5 : Memref sig .tc .vmem S32x128 .i32) (harg5 : arg5.IsWhole)
  (x0 : Vec F S32x16384 .f32) (x1 : Vec F S32x640 .f32) (xs0 : Vec F S32x128 .f32) (xs1 : Vec F S32x128 .i32)

/-- The carried accumulator, read through its two memrefs. -/
def carried : FVec F S32x128 .f32 × IVec S32x128 32 :=
  (View.readAt (Elt F) arg4.view whole.toLoadRect (harg4.unread xs0),
    View.readAt (Elt F) arg5.view whole.toLoadRect (harg5.unread xs1))

/-- The accumulator of the first point, read back after it is stored. -/
def started : FVec F S32x128 .f32 × IVec S32x128 32 :=
  (arg4.view.readCov (Val := Elt F) [⟨whole, low⟩] whole.toLoadRect,
    arg5.view.readCov (Val := Elt F) [⟨whole, zeros⟩] whole.toLoadRect)

/-- The first point stores its starting values, then its block's best merged into them. -/
theorem pieces0_A (hc0 : cond0_0 i) (hc1 : cond0_1 i) (hc2 : ¬cond0_2 i) :
    (kernelRun0_A c i arg1 harg1 arg2 harg2 arg3 harg3 arg4 harg4 arg5 harg5 hc0 hc1 hc2 x0 x1).2.1
      = [⟨whole, shapeCast S32x128 (merged (slice arg1 harg1 c x0) (base i) (started arg4 arg5)).1
          shapeCasts_S32x128_S32x128⟩, ⟨whole, low⟩] := by
  sl_kernel_rfl

/-- The same for the indices. -/
theorem pieces1_A (hc0 : cond0_0 i) (hc1 : cond0_1 i) (hc2 : ¬cond0_2 i) :
    (kernelRun0_A c i arg1 harg1 arg2 harg2 arg3 harg3 arg4 harg4 arg5 harg5 hc0 hc1 hc2 x0 x1).2.2.1
      = [⟨whole, shapeCast S32x128 (merged (slice arg1 harg1 c x0) (base i) (started arg4 arg5)).2
          shapeCasts_S32x128_S32x128⟩, ⟨whole, zeros⟩] := by
  sl_kernel_rfl

/-- A middle point stores its block's best merged into what the accumulator held. -/
theorem pieces0_B (hc0 : ¬cond0_0 i) (hc1 : cond0_1 i) (hc2 : ¬cond0_2 i) :
    (kernelRun0_B c i arg1 harg1 arg2 harg2 arg3 harg3 arg4 harg4 arg5 harg5 hc0 hc1 hc2 x0 x1 xs0 xs1).2.1
      = [⟨whole, shapeCast S32x128 (merged (slice arg1 harg1 c x0) (base i)
          (carried arg4 harg4 arg5 harg5 xs0 xs1)).1 shapeCasts_S32x128_S32x128⟩] := by
  sl_kernel_rfl

/-- The same for the indices. -/
theorem pieces1_B (hc0 : ¬cond0_0 i) (hc1 : cond0_1 i) (hc2 : ¬cond0_2 i) :
    (kernelRun0_B c i arg1 harg1 arg2 harg2 arg3 harg3 arg4 harg4 arg5 harg5 hc0 hc1 hc2 x0 x1 xs0 xs1).2.2.1
      = [⟨whole, shapeCast S32x128 (merged (slice arg1 harg1 c x0) (base i)
          (carried arg4 harg4 arg5 harg5 xs0 xs1)).2 shapeCasts_S32x128_S32x128⟩] := by
  sl_kernel_rfl

/-- The last point folds the tail in and stores the row's answer in the output's staging buffer. -/
theorem pieces2_C (hc0 : ¬cond0_0 i) (hc1 : ¬cond0_1 i) (hc2 : cond0_2 i) :
    (kernelRun0_C c i arg1 harg1 arg2 harg2 arg3 harg3 arg4 harg4 arg5 harg5 hc0 hc1 hc2 x0 x1 xs0 xs1).1
      = [⟨whole, finish (withTail (tailSlice arg2 harg2 c x1)
          (merged (slice arg1 harg1 c x0) (base i) (carried arg4 harg4 arg5 harg5 xs0 xs1)) 5)⟩] := by
  sl_kernel_rfl

end Cert.Proof.Block

end
-- ==== Proof.Cipher.lean ====
module

public import proofs.«01_k».proof.Proof.Block
public import Idealize.ShloMosaic.Lib.KernelVsHost

@[expose] public section

noncomputable section

/-! # The random draw of one counter

The kernel's cipher on one word, the reference's on one counter, and that they give the same bits: the kernel has merged
the constants it adds and left out the additions of zero. -/

namespace Cert.Proof.Cipher

open Idealize.ShloMosaic
open Cert.KernelIdeal (S32x128)

/-- A pair of words. -/
abbrev Words := BitVec 32 × BitVec 32

/-- A word rotated left. -/
def rot (l r x : BitVec 32) : BitVec 32 := IntOp.ori (IntOp.shli .vector x l) (IntOp.shrui .vector x r)

/-! ## The kernel's -/

/-- One round. -/
def turn (l r : BitVec 32) (p : Words) : Words :=
  (IntOp.addi p.1 p.2, IntOp.xori (rot l r p.2) (IntOp.addi p.1 p.2))

/-- A key injection. -/
def inject (a b : BitVec 32) (p : Words) : Words := (IntOp.addi p.1 a, IntOp.addi p.2 b)

/-- The rounds of an odd group after its first. -/
def oddTail (p : Words) : Words := turn 6#32 26#32 (turn 26#32 6#32 (turn 15#32 17#32 p))

/-- The rounds of an even group. -/
def evenRounds (p : Words) : Words := turn 24#32 8#32 (turn 16#32 16#32 (turn 29#32 3#32 (turn 17#32 15#32 p)))

/-- After the first group. -/
def words1 (x : BitVec 32) : Words := inject 42#32 466689009#32 (oddTail (x, IntOp.xori (rot 13#32 19#32 x) x))
/-- After the second group. -/
def words2 (x : BitVec 32) : Words := inject 466689008#32 2#32 (evenRounds (words1 x))
/-- After the third group. -/
def words3 (x : BitVec 32) : Words :=
  ((oddTail (turn 13#32 19#32 (words2 x))).1, IntOp.addi (oddTail (turn 13#32 19#32 (words2 x))).2 45#32)
/-- After the fourth group. -/
def words4 (x : BitVec 32) : Words := inject 42#32 466689012#32 (evenRounds (words3 x))
/-- After the fifth group. -/
def words5 (x : BitVec 32) : Words := inject 466689008#32 5#32 (oddTail (turn 13#32 19#32 (words4 x)))

/-- The kernel's random bits of the cipher's second input word. -/
def bits (x : BitVec 32) : BitVec 32 := IntOp.xori (words5 x).1 (words5 x).2

/-- A slice's random bits are each lane's. -/
theorem bits_lane (x : IVec S32x128 32) (i : S32x128.Idx) : Block.bits x i = bits (x i) := rfl

/-! ## The reference's -/

/-- One round. -/
def mix (l r : BitVec 32) (p : Words) : Words :=
  (IntOp.addi p.1 p.2, IntOp.xori (IntOp.addi p.1 p.2) (rot l r p.2))

/-- A key injection: the key words, and the group's number added to the second. -/
def key (a b n : BitVec 32) (p : Words) : Words := (IntOp.addi p.1 a, IntOp.addi (IntOp.addi p.2 b) n)

/-- An odd group. -/
def oddGroup (a b n : BitVec 32) (p : Words) : Words :=
  key a b n (mix 6#32 26#32 (mix 26#32 6#32 (mix 15#32 17#32 (mix 13#32 19#32 p))))

/-- An even group. -/
def evenGroup (a b n : BitVec 32) (p : Words) : Words :=
  key a b n (mix 24#32 8#32 (mix 16#32 16#32 (mix 29#32 3#32 (mix 17#32 15#32 p))))

/-- The five groups. -/
def groups (p : Words) : Words :=
  oddGroup 466689008#32 0#32 5#32 (evenGroup 42#32 466689008#32 4#32 (oddGroup 0#32 42#32 3#32
    (evenGroup 466689008#32 0#32 2#32 (oddGroup 42#32 466689008#32 1#32 p))))

/-- The reference's random bits of a counter. -/
def refBits (count : BitVec 32) : BitVec 32 :=
  IntOp.xori (groups (IntOp.addi 0#32 0#32, IntOp.addi count 42#32)).1
    (groups (IntOp.addi 0#32 0#32, IntOp.addi count 42#32)).2

/-! ## They agree -/

/-- The two spellings of a round. -/
theorem turn_eq_mix (l r : BitVec 32) (p : Words) : turn l r p = mix l r p :=
  Prod.ext rfl (BitVec.xor_comm _ _)

/-- Adding a sum is adding its terms. -/
theorem addi_addi (x a b : BitVec 32) : IntOp.addi x (a + b) = IntOp.addi (IntOp.addi x a) b :=
  (BitVec.add_assoc x a b).symm

/-- Adding zero changes nothing. -/
theorem addi_zero (x : BitVec 32) : IntOp.addi x 0#32 = x := BitVec.add_zero x

/-- The cipher's first round starts from a zero word. -/
theorem mix_zero (x : BitVec 32) : mix 13#32 19#32 (IntOp.addi 0#32 0#32, x) = (x, IntOp.xori (rot 13#32 19#32 x) x) := by
  have h : IntOp.addi (IntOp.addi 0#32 0#32) x = x := BitVec.zero_add x
  unfold mix
  dsimp only
  rw [h]
  exact Prod.ext rfl (BitVec.xor_comm _ _)

/-- The kernel's first group is the reference's. -/
theorem words1_eq (x : BitVec 32) :
    words1 x = oddGroup 42#32 466689008#32 1#32 (IntOp.addi 0#32 0#32, x) := by
  unfold words1 oddGroup oddTail inject key
  rw [mix_zero]
  simp only [turn_eq_mix]
  exact Prod.ext rfl (addi_addi _ 466689008#32 1#32)

/-- The kernel's second group is the reference's. -/
theorem words2_eq (x : BitVec 32) :
    words2 x = evenGroup 466689008#32 0#32 2#32 (words1 x) := by
  unfold words2 evenGroup evenRounds inject key
  simp only [turn_eq_mix, addi_zero]

/-- The kernel's third group is the reference's. -/
theorem words3_eq (x : BitVec 32) :
    words3 x = oddGroup 0#32 42#32 3#32 (words2 x) := by
  unfold words3 oddGroup oddTail key
  simp only [turn_eq_mix, addi_zero]
  exact Prod.ext rfl (addi_addi _ 42#32 3#32)

/-- The kernel's fourth group is the reference's. -/
theorem words4_eq (x : BitVec 32) :
    words4 x = evenGroup 42#32 466689008#32 4#32 (words3 x) := by
  unfold words4 evenGroup evenRounds inject key
  simp only [turn_eq_mix]
  exact Prod.ext rfl (addi_addi _ 466689008#32 4#32)

/-- The kernel's fifth group is the reference's. -/
theorem words5_eq (x : BitVec 32) :
    words5 x = oddGroup 466689008#32 0#32 5#32 (words4 x) := by
  unfold words5 oddGroup oddTail inject key
  simp only [turn_eq_mix, addi_zero]

/-- The kernel's bits at a counter plus 42 are the reference's at the counter. -/
theorem bits_eq (count : BitVec 32) : bits (IntOp.addi count 42#32) = refBits count := by
  unfold bits refBits groups
  rw [words5_eq, words4_eq, words3_eq, words2_eq, words1_eq]

end Cert.Proof.Cipher

end
-- ==== Proof.Noise.lean ====
module

public import proofs.«01_k».proof.Proof.Cipher
public import Idealize.ShloMosaic.PureOps.Ideal.Laws

@[expose] public section

noncomputable section

/-! # The Gumbel noise of one draw

At the reals, the kernel's draw (a float assembled from bits, less one, at least the least normal) and the reference's
(the 23 upper bits over 2^23, the least normal in place of zero) are the same positive number; so their noise is the
same, and it is never minus infinity. -/

namespace Cert.Proof.Noise

open Idealize.ShloMosaic
open Cert.KernelIdeal (S32x128)

/-- The kernel's draw. -/
def draw {F : FTy → Type} [FloatOps F] (b : BitVec 32) : F .f32 :=
  FloatOps.maximumf
    (FloatOps.subf (FloatOps.ofBits .f32 (IntOp.ori (IntOp.shrui .vector b 9#32) 1065353216#32))
      (FloatOps.ofBits .f32 1065353216#32))
    (FloatOps.ofBits .f32 8388608#32)

/-- The kernel's noise. -/
def noise {F : FTy → Type} [FloatOps F] (b : BitVec 32) : F .f32 :=
  FloatOps.subf (FloatOps.ofBits .f32 0#32) (FloatOps.log
    (FloatOps.subf (FloatOps.ofBits .f32 0#32) (FloatOps.log (draw b))))

/-- A slice's score is each lane's log-weight plus its counter's noise. -/
theorem score_lane {F : FTy → Type} [FloatOps F] (lp : FVec F S32x128 .f32) (x : IVec S32x128 32) (i : S32x128.Idx) :
    Block.score lp x i = FloatOps.addf (lp i) (noise (Cipher.bits (x i))) := rfl

/-- The reference's draw. -/
def refDraw {F : FTy → Type} [FloatOps F] (b : BitVec 32) : F .f32 :=
  if IntOp.cmpi .eq (IntOp.shrui .host b 9#32) 0#32 = 1#1 then FloatOps.ofBits .f32 8388608#32
  else FloatOps.mulf (FloatOps.sitofp .f32 (IntOp.shrui .host b 9#32)) (FloatOps.ofBits .f32 872415232#32)

/-- The reference's noise. -/
def refNoise {F : FTy → Type} [FloatOps F] (b : BitVec 32) : F .f32 :=
  FloatOps.hostNegf (FloatOps.hostUnary .log (FloatOps.hostNegf (FloatOps.hostUnary .log (refDraw b))))

/-- A number below 2^23 under one's exponent field. -/
theorem toNat_or (n : ℕ) (h : n < 2 ^ 23) :
    (IntOp.ori (BitVec.ofNat 32 n) 1065353216#32).toNat = 2 ^ 23 * 127 + n := by
  show (BitVec.ofNat 32 n ||| 1065353216#32).toNat = _
  rw [BitVec.toNat_or, BitVec.toNat_ofNat, Nat.mod_eq_of_lt (by omega), Nat.two_pow_add_eq_or_of_lt h, Nat.or_comm]
  rfl

/-- The float whose trailing bits are the number `n` below 2^23, with one's exponent, is 1 + n / 2^23. -/
theorem ofBits_one_or (n : ℕ) (h : n < 2 ^ 23) :
    Ideal.ofBits .f32 (IntOp.ori (BitVec.ofNat 32 n) 1065353216#32) = ((1 + n * (2 : ℝ) ^ (-23 : ℤ) : ℝ) : EReal) := by
  have h1 : ((IntOp.ori (BitVec.ofNat 32 n) 1065353216#32).extractLsb' (8 + 23) 1 == 1#1) = false := by
    rw [beq_eq_false_iff_ne]
    intro e
    have := congrArg BitVec.toNat e
    rw [BitVec.extractLsb'_toNat, toNat_or n h, Nat.shiftRight_eq_div_pow] at this
    simp only [BitVec.toNat_ofNat] at this
    omega
  have h2 : ((IntOp.ori (BitVec.ofNat 32 n) 1065353216#32).extractLsb' 23 8).toNat = 127 := by
    rw [BitVec.extractLsb'_toNat, toNat_or n h, Nat.shiftRight_eq_div_pow]
    omega
  have h3 : ((IntOp.ori (BitVec.ofNat 32 n) 1065353216#32).extractLsb' 0 23).toNat = n := by
    rw [BitVec.extractLsb'_toNat, toNat_or n h, Nat.shiftRight_eq_div_pow]
    omega
  show Ideal.ieee 8 23 _ = _
  unfold Ideal.ieee
  simp only [h1, h2, h3]
  rw [if_neg (by norm_num), if_neg (by norm_num)]
  congr 1
  push_cast
  norm_num
  ring

/-- The constant one. -/
theorem ofBits_one : Ideal.ofBits .f32 1065353216#32 = ((1 : ℝ) : EReal) := by
  simp [Ideal.ofBits, Ideal.ieee, -EReal.coe_mul]
  norm_num

/-- The least normal. -/
theorem ofBits_tiny : Ideal.ofBits .f32 8388608#32 = (((2 : ℝ) ^ (-126 : ℤ) : ℝ) : EReal) := by
  simp [Ideal.ofBits, Ideal.ieee, -EReal.coe_mul]
  norm_num

/-- The reciprocal of 2^23. -/
theorem ofBits_step : Ideal.ofBits .f32 872415232#32 = (((2 : ℝ) ^ (-23 : ℤ) : ℝ) : EReal) := by
  simp [Ideal.ofBits, Ideal.ieee, -EReal.coe_mul]
  norm_num

/-- The 23 upper bits as a number. -/
theorem upper_bits (u : ArithUnit) (b : BitVec 32) :
    ∃ n : ℕ, n < 2 ^ 23 ∧ IntOp.shrui u b 9#32 = BitVec.ofNat 32 n := by
  refine ⟨b.toNat / 2 ^ 9, by have := b.isLt; omega, ?_⟩
  unfold IntOp.shrui
  rw [if_pos (by decide)]
  apply BitVec.eq_of_toNat_eq
  rw [BitVec.toNat_ofNat, Nat.mod_eq_of_lt (by have := b.isLt; omega)]
  show (b >>> (9#32).toNat).toNat = _
  rw [BitVec.toNat_ushiftRight, Nat.shiftRight_eq_div_pow]
  rfl

/-- The two draws are the same positive real. -/
theorem draws (b : BitVec 32) : ∃ r : ℝ, 0 < r ∧ draw (F := Ideal) b = (r : EReal) ∧ refDraw (F := Ideal) b = (r : EReal) := by
  obtain ⟨n, hn, e⟩ := upper_bits .vector b
  have e' : IntOp.shrui .host b 9#32 = BitVec.ofNat 32 n := (shrui_unit _ _ _ _).trans e
  have hd : draw (F := Ideal) b = ((max (n * (2 : ℝ) ^ (-23 : ℤ)) ((2 : ℝ) ^ (-126 : ℤ)) : ℝ) : EReal) := by
    unfold draw
    rw [e]
    show max (Ideal.ofBits .f32 (IntOp.ori (BitVec.ofNat 32 n) 1065353216#32) - Ideal.ofBits .f32 1065353216#32)
      (Ideal.ofBits .f32 8388608#32) = _
    rw [ofBits_one_or n hn, ofBits_one, ofBits_tiny, ← EReal.coe_sub, EReal.coe_strictMono.monotone.map_max]
    congr 2
    ring
  rcases Nat.eq_zero_or_pos n with h0 | h0
  · refine ⟨(2 : ℝ) ^ (-126 : ℤ), by positivity, ?_, ?_⟩
    · rw [hd, h0]
      congr 1
      rw [Nat.cast_zero, zero_mul]
      exact max_eq_right (by positivity)
    · unfold refDraw
      rw [e', h0, if_pos (by decide)]
      exact ofBits_tiny
  · refine ⟨n * (2 : ℝ) ^ (-23 : ℤ), by positivity, ?_, ?_⟩
    · rw [hd]
      congr 1
      refine max_eq_left ?_
      have h1 : (1 : ℝ) ≤ n := by exact_mod_cast h0
      calc (2 : ℝ) ^ (-126 : ℤ) ≤ 1 * (2 : ℝ) ^ (-23 : ℤ) := by norm_num
        _ ≤ n * (2 : ℝ) ^ (-23 : ℤ) := by gcongr
    · unfold refDraw
      rw [e', if_neg]
      · show (((BitVec.ofNat 32 n).toInt : ℝ) : EReal) * Ideal.ofBits .f32 872415232#32 = _
        rw [ofBits_step, ← EReal.coe_mul]
        congr 3
        rw [BitVec.toInt_eq_toNat_of_lt]
        · rw [BitVec.toNat_ofNat, Nat.mod_eq_of_lt (by omega)]
        · rw [BitVec.toNat_ofNat, Nat.mod_eq_of_lt (by omega)]
          omega
      · intro h
        have hz : BitVec.ofNat 32 n = 0#32 := by
          have h' : (BitVec.ofNat 32 n == 0#32) = true := by
            cases hb : (BitVec.ofNat 32 n == 0#32) with
            | true => rfl
            | false =>
              have : BitVec.ofBool (BitVec.ofNat 32 n == 0#32) = 1#1 := h
              rw [hb] at this
              exact absurd this (by decide)
          exact eq_of_beq h'
        have := congrArg BitVec.toNat hz
        rw [BitVec.toNat_ofNat, Nat.mod_eq_of_lt (by omega)] at this
        simp at this
        omega

/-- The constant zero, and the difference from it. -/
theorem zero_sub' (x : EReal) : Ideal.ofBits .f32 0#32 - x = -x := by
  rw [Ideal.ofBits_zero_f32, sub_eq_add_neg, zero_add]

/-- The kernel's noise, as the logarithms it is. -/
theorem noise_eq (b : BitVec 32) :
    noise (F := Ideal) b = -Ideal.log (-Ideal.log (draw (F := Ideal) b)) := by
  show Ideal.ofBits .f32 0#32 - Ideal.log (Ideal.ofBits .f32 0#32 - Ideal.log (draw (F := Ideal) b)) = _
  rw [zero_sub', zero_sub']

/-- The two noises are equal. -/
theorem noise_eq_refNoise (b : BitVec 32) : noise (F := Ideal) b = refNoise (F := Ideal) b := by
  obtain ⟨r, _, h, h'⟩ := draws b
  rw [noise_eq, h, ← h']
  rfl

/-- The noise is never minus infinity. -/
theorem noise_ne_bot (b : BitVec 32) : noise (F := Ideal) b ≠ ⊥ := by
  obtain ⟨r, hr, h, _⟩ := draws b
  rw [noise_eq, h, Ideal.log_coe, if_neg (not_le.mpr hr), ← EReal.coe_neg, Ideal.log_coe]
  split
  · simp
  · rw [← EReal.coe_neg]
    exact EReal.coe_ne_bot _

end Cert.Proof.Noise

end
-- ==== Proof.Pick.lean ====
module

public import Mathlib.Order.BoundedOrder.Basic
public import Mathlib.Order.Defs.LinearOrder
public import Mathlib.Tactic.Linarith

@[expose] public section

/-! # Keeping the first greatest value

A running maximum with its index, updated only by a strictly greater value, holds the first greatest value met. -/

namespace Cert.Proof.Pick

variable {α β : Type} [LinearOrder α]

/-- The new pair where its value is above the old one's, the old pair otherwise. -/
def pick (old new : α × β) : α × β := if old.1 < new.1 then new else old

/-- `p` is the first greatest of `(sc k, ix k)` over `a ≤ k < b`. -/
def Best (sc : ℕ → α) (ix : ℕ → β) (a b : ℕ) (p : α × β) : Prop :=
  ∃ k, a ≤ k ∧ k < b ∧ p = (sc k, ix k) ∧ (∀ j, a ≤ j → j < k → sc j < sc k) ∧ ∀ j, a ≤ j → j < b → sc j ≤ sc k

/-- One value is the best of itself. -/
theorem best_one (sc : ℕ → α) (ix : ℕ → β) (a : ℕ) : Best sc ix a (a + 1) (sc a, ix a) :=
  ⟨a, le_refl _, by omega, rfl, fun j _ _ => by omega, fun j h h' => by
    have : j = a := by omega
    rw [this]⟩

/-- The best of a range and the best of the range after it give the best of both. -/
theorem best_append {sc : ℕ → α} {ix : ℕ → β} {a b c : ℕ} {p q : α × β} (hp : Best sc ix a b p)
    (hq : Best sc ix b c q) : Best sc ix a c (pick p q) := by
  obtain ⟨k, hak, hkb, rfl, hk, hk'⟩ := hp
  obtain ⟨l, hbl, hlc, rfl, hl, hl'⟩ := hq
  unfold pick
  dsimp only
  split
  · rename_i h
    refine ⟨l, by omega, hlc, rfl, fun j haj hjl => ?_, fun j haj hjc => ?_⟩
    · rcases Nat.lt_or_ge j b with hj | hj
      · exact lt_of_le_of_lt (hk' j haj hj) h
      · exact hl j hj hjl
    · rcases Nat.lt_or_ge j b with hj | hj
      · exact le_of_lt (lt_of_le_of_lt (hk' j haj hj) h)
      · exact hl' j hj hjc
  · rename_i h
    refine ⟨k, hak, by omega, rfl, hk, fun j haj hjc => ?_⟩
    rcases Nat.lt_or_ge j b with hj | hj
    · exact hk' j haj hj
    · exact le_trans (hl' j hj hjc) (not_lt.mp h)

variable [OrderBot α]

/-- `p` is the first greatest of the values before `b`, or all of them are the least value and so is `p`'s. -/
def Led (sc : ℕ → α) (ix : ℕ → β) (b : ℕ) (p : α × β) : Prop :=
  Best sc ix 0 b p ∨ (p.1 = ⊥ ∧ ∀ j, j < b → sc j = ⊥)

/-- The least value leads the empty range. -/
theorem led_zero (sc : ℕ → α) (ix : ℕ → β) {p : α × β} (h : p.1 = ⊥) : Led sc ix 0 p :=
  .inr ⟨h, fun _ h => absurd h (Nat.not_lt_zero _)⟩

/-- The leader updated by the best of the next range leads both. -/
theorem led_append {sc : ℕ → α} {ix : ℕ → β} {b c : ℕ} {p q : α × β} (hp : Led sc ix b p)
    (hq : Best sc ix b c q) : Led sc ix c (pick p q) := by
  rcases hp with hp | ⟨hp, hb⟩
  · exact .inl (best_append hp hq)
  · obtain ⟨l, hbl, hlc, rfl, hl, hl'⟩ := hq
    unfold pick
    rw [hp]
    dsimp only
    split
    · rename_i h
      refine .inl ⟨l, Nat.zero_le _, hlc, rfl, fun j _ hjl => ?_, fun j _ hjc => ?_⟩
      · rcases Nat.lt_or_ge j b with hj | hj
        · rw [hb j hj]; exact h
        · exact hl j hj hjl
      · rcases Nat.lt_or_ge j b with hj | hj
        · rw [hb j hj]; exact bot_le
        · exact hl' j hj hjc
    · rename_i h
      have h0 : sc l = ⊥ := le_bot_iff.mp (not_lt.mp h)
      refine .inr ⟨hp, fun j hjc => ?_⟩
      rcases Nat.lt_or_ge j b with hj | hj
      · exact hb j hj
      · exact le_bot_iff.mp (h0 ▸ hl' j hj hjc)

/-- A leader is at least every value before it. -/
theorem Led.le {sc : ℕ → α} {ix : ℕ → β} {b : ℕ} {p : α × β} (h : Led sc ix b p) {j : ℕ} (hj : j < b) :
    sc j ≤ p.1 := by
  rcases h with ⟨k, _, _, rfl, _, h⟩ | ⟨_, h⟩
  · exact h j (Nat.zero_le _) hj
  · rw [h j hj]; exact bot_le

/-- A leader above the least value is one of the values, with its index, and no value before that one is as great. -/
theorem Led.exists {sc : ℕ → α} {ix : ℕ → β} {b : ℕ} {p : α × β} (h : Led sc ix b p) (hp : p.1 ≠ ⊥) :
    ∃ k, k < b ∧ p.1 = sc k ∧ p.2 = ix k ∧ ∀ j, j < k → sc j < sc k := by
  rcases h with ⟨k, _, hk, rfl, h, _⟩ | ⟨h, _⟩
  · exact ⟨k, hk, rfl, rfl, fun j hj => h j (Nat.zero_le _) hj⟩
  · exact absurd h hp

end Cert.Proof.Pick
-- ==== Proof.Lane.lean ====
module

public import proofs.«01_k».proof.Proof.Noise
public import proofs.«01_k».proof.Proof.Pick
public import Idealize.ShloMosaic.Lib.ValueLayoutCasts

@[expose] public section

noncomputable section

/-! # One lane of the accumulator

Lane `l` of row `r` sees the columns `l, 128 + l, 256 + l, …` of the row, in order. It holds the first greatest of their
scores, with its counter. -/

namespace Cert.Proof.Lane

open Idealize.ShloMosaic Idealize.ShloMosaic.ValueIdx
open Cert.KernelIdeal (S32x128 S32x1000000)
open Cert.Proof.Block Cert.Proof.Pick

/-- The log-weight of column `c` of row `r`, minus infinity past the last column. -/
def col (x : S32x1000000.Idx → EReal) (r : Fin 32) (c : ℕ) : EReal :=
  if h : c < 1000000 then x (ix2 r ⟨c, h⟩) else ⊥

/-- The counter of column `c` of row `r`, plus the key's 42. -/
def ctr (r : Fin 32) (c : ℕ) : BitVec 32 := BitVec.ofNat 32 (1000000 * r.val + c + 42)

/-- The score of column `c` of row `r`. -/
def value (x : S32x1000000.Idx → EReal) (r : Fin 32) (c : ℕ) : EReal :=
  col x r c + Noise.noise (F := Ideal) (Cipher.bits (ctr r c))

/-- The score past the last column is minus infinity. -/
theorem value_past (x : S32x1000000.Idx → EReal) (r : Fin 32) {c : ℕ} (h : 1000000 ≤ c) : value x r c = ⊥ := by
  unfold value col
  rw [dif_neg (by omega), EReal.bot_add]

/-- A score is minus infinity only where the log-weight is. -/
theorem value_eq_bot (x : S32x1000000.Idx → EReal) (r : Fin 32) (c : ℕ) : value x r c = ⊥ ↔ col x r c = ⊥ := by
  unfold value
  rw [EReal.add_eq_bot_iff]
  exact or_iff_left (Noise.noise_ne_bot _)

/-- A lane of a pair of vectors. -/
def lane (p : FVec Ideal S32x128 .f32 × IVec S32x128 32) (i : S32x128.Idx) : EReal × BitVec 32 := (p.1 i, p.2 i)

/-- The better of two pairs, in one lane. -/
theorem lane_better (p q : FVec Ideal S32x128 .f32 × IVec S32x128 32) (i : S32x128.Idx) :
    lane (better p q) i = pick (lane p i) (lane q i) := by
  have hs : ∀ {α : Type} (a b : S32x128.Idx → α),
      select (cmpf .ogt q.1 p.1) a b i = if p.1 i < q.1 i then a i else b i := by
    intro α a b
    show (if BitVec.ofBool (decide (p.1 i < q.1 i)) = 1#1 then a i else b i) = _
    by_cases h : p.1 i < q.1 i <;> simp [h]
  unfold lane better pick
  dsimp only
  rw [hs, hs]
  split <;> rfl

section
variable {sc : ℕ → EReal} {ix : ℕ → BitVec 32} {ld : ℕ → FVec Ideal S32x128 .f32} {b : BitVec 32} {i : S32x128.Idx}
  {off : ℕ}

/-- A chain holds the first greatest of its slices. -/
theorem best_chain {start : ℕ} : ∀ n, (∀ s, s < start + n + 1 → lane (entry ld b s) i = (sc (off + s), ix (off + s))) →
    Best sc ix (off + start) (off + start + n + 1) (lane (chain ld b start n) i)
  | 0, h => by
    unfold chain
    rw [h start (by omega)]
    exact best_one sc ix _
  | n + 1, h => by
    unfold chain
    rw [lane_better]
    refine best_append (best_chain n fun s hs => h s (by omega)) ?_
    rw [h (start + (n + 1)) (by omega), show off + (start + (n + 1)) = off + start + n + 1 by omega]
    exact best_one sc ix _

/-- A block merged into an accumulator that leads the slices before it leads these and its own. -/
theorem led_merged {acc : FVec Ideal S32x128 .f32 × IVec S32x128 32}
    (h : ∀ s, s < 128 → lane (entry ld b s) i = (sc (off + s), ix (off + s))) (ha : Led sc ix off (lane acc i)) :
    Led sc ix (off + 128) (lane (merged ld b acc) i) := by
  unfold merged
  simp only [lane_better]
  refine led_append (b := off + 96) (led_append (b := off + 64) (led_append (b := off + 32) (led_append ha ?_) ?_) ?_) ?_
  · exact best_chain (start := 0) 31 fun s hs => h s (by omega)
  · exact best_chain (start := 32) 31 fun s hs => h s (by omega)
  · exact best_chain (start := 64) 31 fun s hs => h s (by omega)
  · exact best_chain (start := 96) 31 fun s hs => h s (by omega)

/-- The tail's slices folded in are led too. -/
theorem led_withTail {p : FVec Ideal S32x128 .f32 × IVec S32x128 32} : ∀ n,
    (∀ s, s < n → lane (entry ld 999424#32 s) i = (sc (off + s), ix (off + s))) → Led sc ix off (lane p i) →
    Led sc ix (off + n) (lane (withTail ld p n) i)
  | 0, _, h => h
  | n + 1, he, h => by
    unfold withTail
    rw [lane_better]
    refine led_append (led_withTail n (fun s hs => he s (by omega)) h) ?_
    rw [he n (by omega)]
    exact best_one sc ix _

end

/-- The pattern's lane. -/
theorem pattern_apply (r : Fin 32) (l : Fin 128) : pattern (ix2 r l) = ctr r l := by
  have h : pattern (ix2 r l)
      = BitVec.ofNat 32 (0 * 32 + r.val) * 1000000#32 + BitVec.ofNat 32 (0 * 128 + l.val) + 42#32 := rfl
  rw [h]
  unfold ctr
  apply BitVec.eq_of_toNat_eq
  simp only [BitVec.toNat_add, BitVec.toNat_mul, BitVec.toNat_ofNat]
  have := r.isLt
  have := l.isLt
  omega

/-- The counters of the slice at column `w + 128 s`. -/
theorem counters_apply (w s : ℕ) (r : Fin 32) (l : Fin 128) (h : w + 128 * s + 128 ≤ 1000064) :
    counters (BitVec.ofNat 32 w) s (ix2 r l) = ctr r (w + 128 * s + l.val) := by
  show pattern (ix2 r l) + (BitVec.ofNat 32 w + BitVec.ofNat 32 (128 * s)) = _
  rw [pattern_apply]
  unfold ctr
  apply BitVec.eq_of_toNat_eq
  simp only [BitVec.toNat_add, BitVec.toNat_ofNat]
  have := r.isLt
  have := l.isLt
  omega

/-- A slice that holds the log-weights from column `w + 128 s` on has their scores and counters. -/
theorem entry_lane (x : S32x1000000.Idx → EReal) {ld : ℕ → FVec Ideal S32x128 .f32} (w s : ℕ) (r : Fin 32) (l : Fin 128)
    (h : w + 128 * s + 128 ≤ 1000064) (hl : ld s (ix2 r l) = col x r (w + 128 * s + l.val)) :
    lane (entry ld (BitVec.ofNat 32 w) s) (ix2 r l)
      = (value x r (w + 128 * s + l.val), ctr r (w + 128 * s + l.val)) := by
  unfold lane entry
  dsimp only
  rw [Noise.score_lane, counters_apply w s r l h, hl]
  rfl

end Cert.Proof.Lane

end
-- ==== Proof.Finish.lean ====
module

public import proofs.«01_k».proof.Proof.Lane
public import Idealize.ShloMosaic.Lib.SortNet.Extract

@[expose] public section

noncomputable section

/-! # The row's answer out of its 128 lanes

The row's greatest value is the greatest score of the row, and the least counter among the lanes that hold it is the
counter of the first column with that score. -/

namespace Cert.Proof.Finish

open Idealize.ShloMosaic Idealize.ShloMosaic.ValueIdx
open Cert.KernelIdeal (S32 S32x1 S32x128 S32x1000000)
open Cert.KernelIdeal.Gen
open Cert.Proof.Block Cert.Proof.Pick Cert.Proof.Lane

/-- Column `c` is the first of row `r` with the row's greatest score. -/
structure First (x : S32x1000000.Idx → EReal) (r : Fin 32) (c : ℕ) : Prop where
  lt : c < 1000000
  before : ∀ j, j < c → value x r j < value x r c
  le : ∀ j, j < 1000000 → value x r j ≤ value x r c

/-- The fold of maxima is the value that bounds the others. -/
theorem fold_max_eq {n : ℕ} (f : Fin n → EReal) (k : Fin n) (h : ∀ l, f l ≤ f k) : Finset.univ.fold max ⊥ f = f k :=
  le_antisymm ((Finset.fold_max_le _).mpr ⟨bot_le, fun l _ => h l⟩)
    ((Finset.le_fold_max _).mpr (.inr ⟨k, Finset.mem_univ _, le_refl _⟩))

/-- The fold of signed minima is the word that is at most the others. -/
theorem fold_min_eq {n : ℕ} (b : BitVec 32) (f : Fin n → BitVec 32) (k : Fin n) (hb : (f k).toInt ≤ b.toInt)
    (h : ∀ l, (f k).toInt ≤ (f l).toInt) : (Finset.univ : Finset (Fin n)).fold (IKind.op .minsi) b f = f k := by
  have hs : ∀ s : Finset (Fin n), (f k).toInt ≤ (s.fold (IKind.op .minsi) b f).toInt
      ∧ ∀ l ∈ s, (s.fold (IKind.op .minsi) b f).toInt ≤ (f l).toInt := by
    intro s
    induction s using Finset.induction_on with
    | empty => exact ⟨hb, fun l hl => absurd hl (Finset.notMem_empty l)⟩
    | insert a s ha ih =>
      rw [Finset.fold_insert ha]
      have e : (IKind.op .minsi (f a) (s.fold (IKind.op .minsi) b f)).toInt
          = min (f a).toInt (s.fold (IKind.op .minsi) b f).toInt := SortNet.toInt_minsi _ _
      rw [e]
      refine ⟨le_min (h a) ih.1, fun l hl => ?_⟩
      rcases Finset.mem_insert.mp hl with rfl | hl
      · exact min_le_left _ _
      · exact le_trans (min_le_right _ _) (ih.2 l hl)
  exact BitVec.eq_of_toInt_eq (le_antisymm ((hs _).2 k (Finset.mem_univ k)) (hs _).1)

/-- A counter as a signed number. -/
theorem ctr_toInt (r : Fin 32) {c : ℕ} (h : c < 1000064) : (ctr r c).toInt = 1000000 * r.val + c + 42 := by
  have hr := r.isLt
  have e : (ctr r c).toNat = 1000000 * r.val + c + 42 := by
    unfold ctr
    rw [BitVec.toNat_ofNat, Nat.mod_eq_of_lt (by omega)]
  rw [BitVec.toInt_eq_toNat_of_lt (by omega), e]
  push_cast
  rfl

/-- The source index over row `r` at lane `l`. -/
theorem lift_row (r : Fin 32) (l : Fin 128) : reduces_S32x128_S32.lift (ix1 r) l = ix2 r l := by
  funext a
  match a with
  | ⟨0, _⟩ => rfl
  | ⟨1, _⟩ => rfl

/-- A vector along a row's lanes. -/
theorem comp_lift {α : Type} (f : S32x128.Idx → α) (r : Fin 32) :
    f ∘ reduces_S32x128_S32.lift (ix1 r) = fun l : Fin 128 => f (ix2 r l) :=
  funext fun l => congrArg f (lift_row r l)

/-- A column of row values spread over the row's lanes. -/
theorem spread_apply {α : Type} (v : S32x1.Idx → α) (r : Fin 32) (l : Fin 128) :
    broadcastTo S32x128 v broadcasts_S32x1_S32x128 (ix2 r l) = v (ix2 r (0 : Fin 1)) := by
  refine broadcastTo_apply v _ _ _ fun a => ?_
  match a with
  | ⟨0, _⟩ => rfl
  | ⟨1, _⟩ => rfl

section
variable {x : S32x1000000.Idx → EReal} {p : FVec Ideal S32x128 .f32 × IVec S32x128 32} {r : Fin 32} {c : ℕ}

/-- The lanes of row `r` lead the row's columns. -/
def Led' (x : S32x1000000.Idx → EReal) (p : FVec Ideal S32x128 .f32 × IVec S32x128 32) (r : Fin 32) : Prop :=
  ∀ l : Fin 128, Led (fun k => value x r (128 * k + l.val)) (fun k => ctr r (128 * k + l.val)) 7813 (lane p (ix2 r l))

/-- No lane holds more than the row's greatest score. -/
theorem lane_le (h : Led' x p r) (hc : First x r c) (l : Fin 128) : p.1 (ix2 r l) ≤ value x r c := by
  by_cases hb : p.1 (ix2 r l) = ⊥
  · rw [hb]; exact bot_le
  · obtain ⟨k, hk, e, -, -⟩ := (h l).exists hb
    have e' : p.1 (ix2 r l) = value x r (128 * k + l.val) := e
    rw [e']
    by_cases hk' : 128 * k + l.val < 1000000
    · exact hc.le _ hk'
    · rw [value_past x r (by omega)]; exact bot_le

/-- A lane that holds the row's greatest score holds a real column's counter, of the first such column or a later one. -/
theorem lane_top (h : Led' x p r) (hc : First x r c) (hb : value x r c ≠ ⊥) (l : Fin 128)
    (e : p.1 (ix2 r l) = value x r c) :
    ∃ k, 128 * k + l.val < 1000000 ∧ c ≤ 128 * k + l.val ∧ p.2 (ix2 r l) = ctr r (128 * k + l.val)
      ∧ ∀ j, j < k → value x r (128 * j + l.val) < value x r c := by
  obtain ⟨k, hk, e1, e2, hj⟩ := (h l).exists (p := lane p (ix2 r l)) (by rw [show (lane p (ix2 r l)).1 = _ from e]; exact hb)
  have e1' : value x r (128 * k + l.val) = value x r c := (show p.1 (ix2 r l) = _ from e1).symm.trans e
  refine ⟨k, ?_, ?_, e2, fun j hjk => e1' ▸ hj j hjk⟩
  · by_contra hk'
    exact hb (e1'.symm.trans (value_past x r (by omega)))
  · by_contra hk'
    exact absurd e1' (ne_of_lt (hc.before _ (by omega)))

/-- The lane of the first column with the row's greatest score holds it, with its counter. -/
theorem lane_first (h : Led' x p r) (hc : First x r c) (hb : value x r c ≠ ⊥) (l : Fin 128) (hl : l.val = c % 128) :
    p.1 (ix2 r l) = value x r c ∧ p.2 (ix2 r l) = ctr r c := by
  have hlt := hc.lt
  have ec : 128 * (c / 128) + l.val = c := by omega
  have e : p.1 (ix2 r l) = value x r c := by
    refine le_antisymm (lane_le h hc l) ?_
    have := (h l).le (j := c / 128) (by omega)
    rw [ec] at this
    exact this
  refine ⟨e, ?_⟩
  obtain ⟨k, hk, hck, e2, hj⟩ := lane_top h hc hb l e
  rw [e2]
  congr 1
  by_contra hne
  have := hj (c / 128) (by omega)
  rw [ec] at this
  exact absurd this (lt_irrefl _)

/-- The row's greatest value is its greatest score. -/
theorem rowMax_eq (h : Led' x p r) (hc : First x r c) (hb : value x r c ≠ ⊥) :
    multiReduction .maximumf [1] S32 p.1 0xFF800000#32 reduces_S32x128_S32 (.inl rfl) rfl (ix1 r) = value x r c := by
  refine (Ideal.multiReduction_maximumf_single _ _ _ _ _ _).trans ?_
  rw [show (FloatOps.ofBits FTy.f32 0xFF800000#32 : Ideal .f32) = ⊥ by
    show Ideal.ofBits .f32 0xFF800000#32 = ⊥
    simp [Ideal.ofBits, Ideal.ieee]]
  have hl := lane_first h hc hb ⟨c % 128, by omega⟩ rfl
  refine (congrArg (fun f : Fin 128 → EReal => Finset.univ.fold max ⊥ f) (comp_lift p.1 r)).trans ?_
  refine (fold_max_eq _ ⟨c % 128, by omega⟩ fun l => ?_).trans hl.1
  rw [hl.1]
  exact lane_le h hc l

/-- The lanes' candidates: their counters where they hold the row's greatest value, the greatest word elsewhere. -/
theorem rowMin_eq (h : Led' x p r) (hc : First x r c) (hb : value x r c ≠ ⊥) (q : FVec Ideal S32x128 .f32)
    (hq : ∀ l : Fin 128, q (ix2 r l) = value x r c) :
    multiReductionI .minsi [1] S32 (select (cmpf .oge p.1 q) p.2 (broadcast S32x128 2147483647#32))
      2147483647#32 reduces_S32x128_S32 rfl (ix1 r) = ctr r c := by
  have hs : ∀ l : Fin 128, select (cmpf .oge p.1 q) p.2 (broadcast S32x128 2147483647#32) (ix2 r l)
      = if value x r c ≤ p.1 (ix2 r l) then p.2 (ix2 r l) else 2147483647#32 := by
    intro l
    show (if BitVec.ofBool (decide (q (ix2 r l) ≤ p.1 (ix2 r l))) = 1#1 then p.2 (ix2 r l) else 2147483647#32) = _
    rw [hq l]
    by_cases h : value x r c ≤ p.1 (ix2 r l) <;> simp [h]
  have hl := lane_first h hc hb ⟨c % 128, by omega⟩ rfl
  have hlt := hc.lt
  have hr := r.isLt
  refine (multiReductionI_eq_fold _ _ _ _ _ _).trans ?_
  rw [Shape.Reduces.fold_filter_drop_single]
  refine (congrArg (fun f : Fin 128 → BitVec 32 => Finset.univ.fold (IKind.op .minsi) 2147483647#32 f)
    ((comp_lift _ r).trans (funext hs))).trans ?_
  have e0 : (if value x r c ≤ p.1 (ix2 r (⟨c % 128, by omega⟩ : Fin 128)) then
      p.2 (ix2 r (⟨c % 128, by omega⟩ : Fin 128)) else 2147483647#32) = ctr r c := by
    rw [hl.1, if_pos (le_refl _), hl.2]
  have big : (2147483647#32 : BitVec 32).toInt = 2147483647 := by decide
  refine (fold_min_eq _ _ ⟨c % 128, by omega⟩ ?_ fun l => ?_).trans e0
  · rw [e0, ctr_toInt r (by omega), big]
    omega
  · rw [e0, ctr_toInt r (by omega)]
    split
    · rename_i hle
      obtain ⟨k, hk, hck, e2, -⟩ := lane_top h hc hb l (le_antisymm (lane_le h hc l) hle)
      rw [e2, ctr_toInt r (by omega)]
      push_cast
      omega
    · rw [big]
      omega

/-- The row's answer is its first greatest column's place in the whole array. -/
theorem finish_apply (h : Led' x p r) (hc : First x r c) (hb : value x r c ≠ ⊥) (l : Fin 128) :
    finish p (ix2 r l) = BitVec.ofNat 32 (1000000 * r.val + c) := by
  unfold finish
  rw [spread_apply, shapeCast_self]
  show shapeCast S32x1 _ shapeCasts_S32_S32x1 (ix2 r (0 : Fin 1)) - 42#32 = _
  rw [shapeCast_a_a1_apply, rowMin_eq h hc hb]
  · unfold ctr
    have hr := r.isLt
    have hlt := hc.lt
    apply BitVec.eq_of_toNat_eq
    simp only [BitVec.toNat_sub, BitVec.toNat_ofNat]
    omega
  · intro l
    rw [spread_apply, shapeCast_a_a1_apply, rowMax_eq h hc hb]

end

end Cert.Proof.Finish

end
-- ==== Proof.RefValue.lean ====
module

public import proofs.«01_k».proof.Proof.RefRun
public import proofs.«01_k».proof.Proof.Finish

@[expose] public section

set_option maxRecDepth 16384

noncomputable section

/-! # The reference's scores

The contents of the reference's buffers after each piece, down to the scores: entry `(r, c)` of them is the score
`Lane.value` of column `c` of row `r`. -/

namespace Cert.Proof.RefValue

open Cert.ReferenceIdeal Cert.ReferenceIdeal.Gen
open Idealize.ShloMosaic Idealize.ShloMosaic.TcCoe Idealize.ShloMosaic.ValueIdx Idealize.ShloMosaic.StableHlo
open Cert.Proof.RefRun Cert.Proof.Cipher

/-- A pair of words at every entry. -/
abbrev Pair := IVec S32x1000000 32 × IVec S32x1000000 32

/-- The pair at one entry. -/
def at' (p : Pair) (i : S32x1000000.Idx) : Words := (p.1 i, p.2 i)

/-- One word at every entry. -/
abbrev all (w : BitVec 32) : IVec S32x1000000 32 := spread (constantI S_ 32 w)

/-- One round, on the arrays. -/
def mixAll (l r : BitVec 32) (p : Pair) : Pair :=
  (addi p.1 p.2, xori (addi p.1 p.2) (ori (Host.shli p.2 (all l)) (Host.shrui p.2 (all r))))

/-- A key injection, on the arrays. -/
def keyAll (a b n : BitVec 32) (p : Pair) : Pair := (addi p.1 (all a), addi (addi p.2 (all b)) (all n))

/-- An odd group, on the arrays. -/
def oddAll (a b n : BitVec 32) (p : Pair) : Pair :=
  keyAll a b n (mixAll 6#32 26#32 (mixAll 26#32 6#32 (mixAll 15#32 17#32 (mixAll 13#32 19#32 p))))

/-- An even group, on the arrays. -/
def evenAll (a b n : BitVec 32) (p : Pair) : Pair :=
  keyAll a b n (mixAll 24#32 8#32 (mixAll 16#32 16#32 (mixAll 29#32 3#32 (mixAll 17#32 15#32 p))))

/-- A shift by less than the width is the same on the host and in a kernel. -/
theorem rot_host (l r x : BitVec 32) (hl : l.toNat < 32) (hr : r.toNat < 32) :
    IntOp.ori (IntOp.shli .host x l) (IntOp.shrui .host x r) = rot l r x := by
  unfold rot IntOp.shli IntOp.shrui
  rw [if_pos hl, if_pos hr, if_pos hl, if_pos hr]

/-- A round acts entry by entry. -/
theorem mixAll_at {l r : BitVec 32} (hl : l.toNat < 32) (hr : r.toNat < 32) (p : Pair) (i : S32x1000000.Idx) :
    at' (mixAll l r p) i = mix l r (at' p i) :=
  Prod.ext rfl (congrArg (IntOp.xori (IntOp.addi (p.1 i) (p.2 i))) (rot_host l r (p.2 i) hl hr))

/-- A key injection acts entry by entry. -/
theorem keyAll_at (a b n : BitVec 32) (p : Pair) (i : S32x1000000.Idx) :
    at' (keyAll a b n p) i = key a b n (at' p i) := rfl

/-- An odd group acts entry by entry. -/
theorem oddAll_at (a b n : BitVec 32) (p : Pair) (i : S32x1000000.Idx) :
    at' (oddAll a b n p) i = oddGroup a b n (at' p i) := by
  unfold oddAll oddGroup
  rw [keyAll_at, mixAll_at (by decide) (by decide), mixAll_at (by decide) (by decide), mixAll_at (by decide) (by decide),
    mixAll_at (by decide) (by decide)]

/-- An even group acts entry by entry. -/
theorem evenAll_at (a b n : BitVec 32) (p : Pair) (i : S32x1000000.Idx) :
    at' (evenAll a b n p) i = evenGroup a b n (at' p i) := by
  unfold evenAll evenGroup
  rw [keyAll_at, mixAll_at (by decide) (by decide), mixAll_at (by decide) (by decide), mixAll_at (by decide) (by decide),
    mixAll_at (by decide) (by decide)]

section
variable {F : FTy → Type} [FloatOps F] (V : Valuation τ sig (Elt F))

/-- The counter array: a million times the row, plus the column. -/
def counts : IVec S32x1000000 32 :=
  addi (muli (iotaInDim S32x1000000 32 0) (all 1000000#32)) (iotaInDim S32x1000000 32 1)

/-- The cipher's two input words. -/
theorem count_words : ((after opsCount V (main_v8 : DevRef τ sig), after opsCount V (main_v10 : DevRef τ sig)) : Pair)
    = (addi (all 0#32) (all 0#32), addi counts (all 42#32)) := by
  refine Prod.ext ?_ ?_ <;> dsimp only <;> after_results_simp <;> rfl

/-- The words after the first group. -/
theorem group1_words : ((after opsGroup1 V (main_v40 : DevRef τ sig), after opsGroup1 V (main_v44 : DevRef τ sig)) : Pair)
    = oddAll 42#32 466689008#32 1#32 (V (main_v8 : DevRef τ sig), V (main_v10 : DevRef τ sig)) := by
  refine Prod.ext ?_ ?_ <;> dsimp only <;> after_results_simp <;> rfl

/-- The words after the second group. -/
theorem group2_words : ((after opsGroup2 V (main_v74 : DevRef τ sig), after opsGroup2 V (main_v78 : DevRef τ sig)) : Pair)
    = evenAll 466689008#32 0#32 2#32 (V (main_v40 : DevRef τ sig), V (main_v44 : DevRef τ sig)) := by
  refine Prod.ext ?_ ?_ <;> dsimp only <;> after_results_simp <;> rfl

/-- The words after the third group. -/
theorem group3_words : ((after opsGroup3 V (main_v108 : DevRef τ sig), after opsGroup3 V (main_v112 : DevRef τ sig)) : Pair)
    = oddAll 0#32 42#32 3#32 (V (main_v74 : DevRef τ sig), V (main_v78 : DevRef τ sig)) := by
  refine Prod.ext ?_ ?_ <;> dsimp only <;> after_results_simp <;> rfl

/-- The words after the fourth group. -/
theorem group4_words : ((after opsGroup4 V (main_v142 : DevRef τ sig), after opsGroup4 V (main_v146 : DevRef τ sig)) : Pair)
    = evenAll 42#32 466689008#32 4#32 (V (main_v108 : DevRef τ sig), V (main_v112 : DevRef τ sig)) := by
  refine Prod.ext ?_ ?_ <;> dsimp only <;> after_results_simp <;> rfl

/-- The words after the fifth group. -/
theorem group5_words : ((after opsGroup5 V (main_v176 : DevRef τ sig), after opsGroup5 V (main_v180 : DevRef τ sig)) : Pair)
    = oddAll 466689008#32 0#32 5#32 (V (main_v142 : DevRef τ sig), V (main_v146 : DevRef τ sig)) := by
  refine Prod.ext ?_ ?_ <;> dsimp only <;> after_results_simp <;> rfl

/-- The scores: the argument plus the noise of the two words' exclusive or. -/
theorem score_apply (i : S32x1000000.Idx) : (after opsScore V (main_v195 : DevRef τ sig) : FVec F S32x1000000 .f32) i
    = FloatOps.addf ((V (main_arg0 : DevRef τ sig) : FVec F S32x1000000 .f32) i)
        (Noise.refNoise (IntOp.xori ((V (main_v176 : DevRef τ sig) : IVec S32x1000000 32) i) ((V (main_v180 : DevRef τ sig) : IVec S32x1000000 32) i))) := by
  after_results_simp
  rfl

/-- The choice of each row, from the scores. -/
def choice (s : FVec F S32x1000000 .f32) : IVec S32 32 := fun j =>
  (Host.argReduce reducer_argmax_f32_i32 s (iotaInDim S32x1000000 32 1) (constant S_ .f32 0xFF800000#32) (constantI S_ 32 0#32)
    reducesTo_S32x1000000_S32_d1 h_S_ j).2

/-- The choice of each row, written out. -/
theorem choice_eq (s : FVec F S32x1000000 .f32) : choice s = fun j =>
    (Host.argReduce reducer_argmax_f32_i32 s (iotaInDim S32x1000000 32 1) (constant S_ .f32 0xFF800000#32) (constantI S_ 32 0#32)
      reducesTo_S32x1000000_S32_d1 h_S_ j).2 := rfl

/-- The result is the choice of each row. -/
theorem pick_choice : after opsPick V (main_v196 : DevRef τ sig) = choice (V (main_v195 : DevRef τ sig)) := by
  after_results_simp
  rfl

/-- Everything before the choice. -/
def scores : FVec F S32x1000000 .f32 :=
  after opsScore (after opsGroup5 (after opsGroup4 (after opsGroup3 (after opsGroup2 (after opsGroup1 (after opsCount V))))))
    (main_v195 : DevRef τ sig)

/-- The result of the whole line. -/
theorem result_choice : after ops V (main_v196 : DevRef τ sig) = choice (scores V) := by
  simp only [ops, after_two]
  rw [pick_choice]
  rfl

/-- The counter of an entry. -/
theorem counts_apply (r : Fin 32) (k : Fin 1000000) :
    IntOp.addi (counts (ix2 r k)) 42#32 = Lane.ctr r k.val := by
  have e : BitVec.ofNat 32 (1000000 * r.val + k.val + 42)
      = BitVec.ofNat 32 r.val * BitVec.ofNat 32 1000000 + BitVec.ofNat 32 k.val + BitVec.ofNat 32 42 := by
    rw [← BitVec.ofNat_mul, ← BitVec.ofNat_add, ← BitVec.ofNat_add, Nat.mul_comm r.val]
  exact e.symm

/-- The scores: the argument plus the noise of the counter. -/
theorem scores_apply (i : S32x1000000.Idx) : scores V i
    = FloatOps.addf ((V (main_arg0 : DevRef τ sig) : FVec F S32x1000000 .f32) i) (Noise.refNoise (refBits (counts i))) := by
  have hw : at' (after opsGroup5 (after opsGroup4 (after opsGroup3 (after opsGroup2 (after opsGroup1 (after opsCount V)))))
        (main_v176 : DevRef τ sig),
      after opsGroup5 (after opsGroup4 (after opsGroup3 (after opsGroup2 (after opsGroup1 (after opsCount V)))))
        (main_v180 : DevRef τ sig)) i = groups (IntOp.addi 0#32 0#32, IntOp.addi (counts i) 42#32) := by
    rw [group5_words, oddAll_at, group4_words, evenAll_at, group3_words, oddAll_at, group2_words, evenAll_at,
      group1_words, oddAll_at, count_words]
    rfl
  unfold scores
  rw [score_apply, opsGroup5_arg0, opsGroup4_arg0, opsGroup3_arg0, opsGroup2_arg0, opsGroup1_arg0, opsCount_arg0]
  refine congrArg (fun b => FloatOps.addf _ (Noise.refNoise b)) ?_
  unfold refBits
  rw [← hw]
  unfold at'
  rfl

end

/-- On the extended reals entry `(r, k)` of the scores is the score of column `k` of row `r`. -/
theorem scores_value (V : Valuation τ sig (Elt Ideal)) (r : Fin 32) (k : Fin 1000000) :
    scores V (ix2 r k) = Lane.value (V (main_arg0 : DevRef τ sig)) r k.val := by
  have e : Noise.refNoise (F := Ideal) (refBits (counts (ix2 r k))) = Noise.noise (F := Ideal) (bits (Lane.ctr r k.val)) := by
    rw [← counts_apply r k, bits_eq (counts (ix2 r k)), Noise.noise_eq_refNoise]
  have hc : Lane.col (V (main_arg0 : DevRef τ sig)) r k.val = (V (main_arg0 : DevRef τ sig) : FVec Ideal S32x1000000 .f32) (ix2 r k) :=
    dif_pos k.isLt
  refine (scores_apply V (ix2 r k)).trans ?_
  rw [e]
  unfold Lane.value
  rw [hc]
  rfl

end Cert.Proof.RefValue
-- ==== Proof.Argmax.lean ====
module

public import proofs.«01_k».proof.Proof.RefValue

@[expose] public section

set_option maxRecDepth 16384

noncomputable section

/-! # The reference's choice

The choice of a row is its first greatest score, wherever that is not minus infinity. -/

namespace Cert.Proof.Argmax

open Cert.ReferenceIdeal Cert.ReferenceIdeal.Gen
open Idealize.ShloMosaic Idealize.ShloMosaic.TcCoe Idealize.ShloMosaic.ValueIdx Idealize.ShloMosaic.StableHlo
open Cert.Proof.RefValue Cert.Proof.Finish Cert.Proof.Lane

/-- A score with the number of its column. -/
abbrev Scored := EReal × BitVec 32

/-- `e` is at least as good as `p`: greater, or as great and not later. -/
def Beats (e p : Scored) : Prop := p.1 < e.1 ∨ p.1 = e.1 ∧ e.2.toInt ≤ p.2.toInt

/-- The reduction's body as a choice between its operands. -/
theorem body_eq (a b : Scored) : (reducer_argmax_f32_i32 (F := Ideal) a b : Scored)
    = if b.1 < a.1 ∨ a.1 = b.1 ∧ a.2.toInt < b.2.toInt then a else b := by
  obtain ⟨x, i⟩ := a
  obtain ⟨y, j⟩ := b
  have hgt : FloatOps.cmpf (F := Ideal) (φ := .f32) .ogt x y = BitVec.ofBool (decide (y < x)) := rfl
  have hne : FloatOps.cmpf (F := Ideal) (φ := .f32) .une x x = 0#1 := by
    show BitVec.ofBool (decide (x ≠ x)) = 0#1
    simp
  have heq : FloatOps.cmpf (F := Ideal) (φ := .f32) .oeq x y = BitVec.ofBool (decide (x = y)) := rfl
  have hlt : IntOp.cmpi .slt i j = BitVec.ofBool (decide (i.toInt < j.toInt)) := rfl
  unfold reducer_argmax_f32_i32
  dsimp only
  rw [hgt, hne, heq, hlt]
  unfold Scalar.select IntOp.ori IntOp.andi
  by_cases h1 : y < x
  · simp [h1, ne_of_gt h1]
  · by_cases h2 : x = y
    · subst h2
      by_cases h3 : i.toInt < j.toInt <;> simp [h3]
    · simp [h1, h2]

/-- Two pairs as good as each other are equal. -/
theorem Beats.antisymm {e p : Scored} (h : Beats e p) (h' : Beats p e) : e = p := by
  rcases h with h | ⟨h, hi⟩
  · rcases h' with h' | ⟨h', _⟩
    · exact absurd h' (not_lt_of_gt h)
    · exact absurd h'.symm (ne_of_lt h)
  · rcases h' with h' | ⟨_, hi'⟩
    · exact absurd h.symm (ne_of_lt h')
    · exact Prod.ext h.symm (BitVec.eq_of_toInt_eq (le_antisymm hi hi'))

/-- Either operand is at least as good as the other. -/
theorem not_better {a b : Scored} (h : ¬ (b.1 < a.1 ∨ a.1 = b.1 ∧ a.2.toInt < b.2.toInt)) : Beats b a := by
  rcases lt_trichotomy a.1 b.1 with h1 | h1 | h1
  · exact .inl h1
  · exact .inr ⟨h1, not_lt.mp fun h2 => h (.inr ⟨h1, h2⟩)⟩
  · exact absurd (.inl h1) h

/-- The better operand, as a condition on `Beats`. -/
theorem better_beats {a b : Scored} (h : b.1 < a.1 ∨ a.1 = b.1 ∧ a.2.toInt < b.2.toInt) : Beats a b :=
  h.imp id fun h => ⟨h.1.symm, le_of_lt h.2⟩

/-- A pair at least as good as all others, wherever it stands in the list, is what the fold ends at. -/
theorem foldl_best {e : Scored} : ∀ (L : List Scored) (a : Scored), Beats e a → (∀ p ∈ L, Beats e p) → e = a ∨ e ∈ L →
    (L.foldl (reducer_argmax_f32_i32 (F := Ideal)) a : Scored) = e
  | [], a, _, _, hm => (hm.resolve_right (List.not_mem_nil)).symm
  | p :: L, a, ha, hL, hm => by
    have hp : Beats e p := hL p List.mem_cons_self
    rw [List.foldl_cons]
    refine foldl_best L _ ?_ (fun q hq => hL q (List.mem_cons_of_mem _ hq)) ?_
    · rw [body_eq]
      split
      · exact ha
      · exact hp
    · rw [body_eq]
      rcases hm with rfl | hm
      · refine .inl ?_
        split
        · rfl
        · rename_i h
          exact hp.antisymm (not_better h)
      · rcases List.mem_cons.mp hm with rfl | hm
        · refine .inl ?_
          split
          · rename_i h
            exact ha.antisymm (better_beats h)
          · rfl
        · exact .inr hm

/-- The entries a row's reduction goes over are the row's. -/
theorem drop_iff (h : S32x1000000.ReducesTo [1] S32) (i : S32x1000000.Idx) (r : Fin 32) :
    h.drop i = ix1 r ↔ i 0 = r := by
  have hv : (h.drop i 0 : Nat) = i 0 := Shape.ReducesTo.drop_apply_val h i 0
  constructor
  · intro e
    rw [e] at hv
    exact Fin.ext hv.symm
  · intro e
    funext b
    have hb : b = 0 := Subsingleton.elim _ _
    subst hb
    exact Fin.ext (hv.trans (congrArg Fin.val e))

/-- What a reduction goes over at an index: the pairs of the entries that drop to it. -/
theorem mem_fiber {α β : Type} {s t : Shape} {axes : List (Fin s.rank)} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, decide_eq_true ?_⟩, ?_⟩
    · rw [Equiv.symm_apply_apply]
      exact hi
    · rw [Equiv.symm_apply_apply]

/-- A column number as a signed number. -/
theorem toInt_col {k : ℕ} (h : k < 1000000) : (BitVec.ofNat 32 k).toInt = k := by
  have e : (BitVec.ofNat 32 k).toNat = k := by rw [BitVec.toNat_ofNat, Nat.mod_eq_of_lt (by omega)]
  rw [BitVec.toInt_eq_toNat_of_lt (by omega), e]

/-- A pair at least as good as the start and as all entries that drop to an index, and one of those, is what the
    reduction gives there. -/
theorem argmax_eq {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (e : Scored)
    (hs : ∀ i, Beats e (ix i, iy i)) (hb : ∀ i, h.drop i = j → Beats e (x i, y i)) (hm : ∃ i, h.drop i = j ∧ e = (x i, y i)) :
    Host.argReduce (reducer_argmax_f32_i32 (F := Ideal)) x y ix iy h hu j = e := by
  rw [Ideal.argReduce_eq_reduce2, Host.reduce2_eq_foldl_fiber]
  refine foldl_best _ _ (hs _) (fun p hp => ?_) (.inr ((mem_fiber x y h j e).mpr hm))
  obtain ⟨i, hd, rfl⟩ := (mem_fiber x y h j p).mp hp
  exact hb i hd

/-- The column numbers. -/
theorem column_apply (r : Fin 32) (k : Fin 1000000) :
    iotaInDim S32x1000000 32 1 (ix2 r k) = BitVec.ofNat 32 k.val := rfl

/-- The scalar the reduction starts from. -/
theorem start_apply (i : S_.Idx) : (constant S_ .f32 0xFF800000#32 : FVec Ideal S_ .f32) i = (⊥ : EReal) := by
  show Ideal.ofBits .f32 0xFF800000#32 = ⊥
  simp [Ideal.ofBits, Ideal.ieee]

/-- THE REFERENCE'S CHOICE of a row is the first column of the greatest score, if that is not minus infinity. -/
theorem choice_first {x : S32x1000000.Idx → EReal} {s : FVec Ideal S32x1000000 .f32} {r : Fin 32}
    (hs : ∀ k : Fin 1000000, s (ix2 r k) = value x r k.val) {q : ℕ} (hq : First x r q) (hb : value x r q ≠ ⊥) :
    choice s (ix1 r) = BitVec.ofNat 32 q := by
  have hstart : ∀ i, Beats (value x r q, BitVec.ofNat 32 q)
      ((constant S_ .f32 0xFF800000#32 : FVec Ideal S_ .f32) i, constantI S_ 32 0#32 i) := by
    intro i
    refine .inl ?_
    dsimp only
    rw [start_apply]
    exact bot_lt_iff_ne_bot.mpr hb
  have hall : ∀ i, (reducesTo_S32x1000000_S32_d1).drop i = ix1 r →
      Beats (value x r q, BitVec.ofNat 32 q) (s i, iotaInDim S32x1000000 32 1 i) := by
    intro i hd
    have hr : i 0 = r := (drop_iff _ i r).mp hd
    obtain ⟨k, rfl⟩ : ∃ k : Fin 1000000, i = ix2 r k := ⟨i 1, by rw [← hr]; exact eq_ix2 i⟩
    rw [hs k, column_apply]
    have hk := k.isLt
    by_cases h : k.val < q
    · exact .inl (hq.before _ h)
    · rcases (hq.le k.val hk).lt_or_eq with h1 | h1
      · exact .inl h1
      · refine .inr ⟨h1, ?_⟩
        dsimp only
        rw [toInt_col hq.lt, toInt_col hk]
        exact_mod_cast not_lt.mp h
  have hmem : ∃ i, (reducesTo_S32x1000000_S32_d1).drop i = ix1 r ∧
      (value x r q, BitVec.ofNat 32 q) = (s i, iotaInDim S32x1000000 32 1 i) := by
    refine ⟨ix2 r ⟨q, hq.lt⟩, (drop_iff _ _ r).mpr rfl, ?_⟩
    rw [hs ⟨q, hq.lt⟩, column_apply]
  have h := argmax_eq s _ _ _ reducesTo_S32x1000000_S32_d1 h_S_ _ _ hstart hall hmem
  exact (congrFun (choice_eq s) (ix1 r)).trans (congrArg Prod.snd h)

/-- Every row has a first greatest score. -/
theorem first_exists (x : S32x1000000.Idx → EReal) (r : Fin 32) : ∃ q, First x r q := by
  obtain ⟨k, hk', hk⟩ := Finset.exists_max_image (Finset.range 1000000) (value x r) ⟨0, Finset.mem_range.mpr (by omega)⟩
  have hex : ∃ q, q < 1000000 ∧ ∀ j < 1000000, value x r j ≤ value x r q :=
    ⟨k, Finset.mem_range.mp hk', fun j hj => hk j (Finset.mem_range.mpr hj)⟩
  classical
  refine ⟨Nat.find hex, (Nat.find_spec hex).1, fun j hj => ?_, (Nat.find_spec hex).2⟩
  have hj' : j < 1000000 := lt_trans hj (Nat.find_spec hex).1
  refine lt_of_le_of_ne ((Nat.find_spec hex).2 j hj') fun e => Nat.find_min hex hj ⟨hj', fun l hl => ?_⟩
  rw [e]
  exact (Nat.find_spec hex).2 l hl

end Cert.Proof.Argmax
-- ==== Proof.Mask.lean ====
module

public import proofs.«01_k».proof.Proof.Argmax
public import proofs.«01_k».proof.Proof.Gen.On_rows_with_weight

@[expose] public section

set_option maxRecDepth 16384

noncomputable section

/-! # The rows the claim speaks of

A row is spoken of where its greatest log-weight is above minus infinity; there the greatest score is too. -/

namespace Cert.Proof.Mask

open Idealize.ShloMosaic Idealize.ShloMosaic.TcCoe Idealize.ShloMosaic.ValueIdx Idealize.ShloMosaic.StableHlo
open Cert.On_rows_with_weight Cert.On_rows_with_weight.Facts
open Cert.Proof.Finish Cert.Proof.Lane

/-- A maximum above minus infinity is above it at some entry it is taken over. -/
theorem entry_of_max {s t u : Shape} {axes : List (Fin s.rank)} (x : FVec Ideal s .f32) (v : FVec Ideal u .f32)
    (h : s.ReducesTo axes t) (hu : 0 < u.numel) (j : t.Idx) (hv : ∀ i, v i = (⊥ : EReal))
    (hj : (⊥ : EReal) < Host.reduce FloatOps.maximumf x v h hu j) : ∃ i, h.drop i = j ∧ x i ≠ (⊥ : EReal) := by
  by_contra hn
  refine absurd hj (not_lt.mpr ?_)
  rw [Host.reduce_eq_fold]
  refine (Finset.fold_max_le (α := s.Idx) (β := EReal) (f := x) ⊥).mpr ⟨le_of_eq (hv _), fun i hi => ?_⟩
  by_contra hx
  exact hn ⟨i, (Finset.mem_filter.mp hi).2, fun e => hx (le_of_eq e)⟩

/-- What a comparison that holds says. -/
theorem lt_of_cmpf {s : Shape} (a b : FVec Ideal s .f32) (i : s.Idx) (h : cmpf .ogt a b i = 1#1) : (b i : EReal) < a i := by
  by_contra hn
  have e : cmpf .ogt a b i = BitVec.ofBool (decide ((b i : EReal) < a i)) := rfl
  rw [e, decide_eq_false hn] at h
  exact absurd h (by decide)

section
variable [Facts]

/-- The scalar the maximum starts from. -/
theorem constant_bot (i : S_.Idx) : (constant S_ .f32 0xFF800000#32 : FVec Ideal S_ .f32) i = (⊥ : EReal) := by
  show Ideal.ofBits .f32 0xFF800000#32 = ⊥
  simp [Ideal.ofBits, Ideal.ieee]

/-- The same, at every row. -/
theorem spread_bot (j : S32.Idx) :
    (broadcastInDim S32 ![] bcast_S_S32 (constant S_ .f32 0xFF800000#32) : FVec Ideal S32 .f32) j = (⊥ : EReal) :=
  constant_bot _

/-- A row spoken of holds a log-weight above minus infinity. -/
theorem entry_of_mask (x : FVec Ideal S32x1000000 .f32) (r : Fin 32) (h : fn (F := Ideal) x (ix1 r) = 1#1) :
    ∃ k : Fin 1000000, x (ix2 r k) ≠ (⊥ : EReal) := by
  have h0 : cmpf .ogt (Host.reduce FloatOps.maximumf x (constant S_ .f32 0xFF800000#32) reducesTo_S32x1000000_S32_d1 h_S_)
      (broadcastInDim S32 ![] bcast_S_S32 (constant S_ .f32 0xFF800000#32) : FVec Ideal S32 .f32) (ix1 r) = 1#1 := h
  have h1 := lt_of_cmpf _ _ _ h0
  rw [spread_bot] at h1
  obtain ⟨i, hd, hi⟩ := entry_of_max x _ _ _ _ constant_bot h1
  have hr : i 0 = r := (Argmax.drop_iff _ i r).mp hd
  exact ⟨i 1, by rw [← hr]; exact (eq_ix2 i) ▸ hi⟩

/-- The first greatest score of a row spoken of is not minus infinity. -/
theorem value_ne_bot {x : FVec Ideal S32x1000000 .f32} {r : Fin 32} (h : fn (F := Ideal) x (ix1 r) = 1#1) {q : ℕ}
    (hq : First x r q) : value x r q ≠ ⊥ := by
  obtain ⟨k, hk⟩ := entry_of_mask x r h
  intro e
  have hb : value x r k.val = ⊥ := le_bot_iff.mp (e ▸ hq.le k.val k.isLt)
  rw [value_eq_bot] at hb
  unfold col at hb
  rw [dif_pos k.isLt] at hb
  exact hk hb

end

end Cert.Proof.Mask
-- ==== Proof.Step.lean ====
module

public import proofs.«01_k».proof.Proof.Block
public import Idealize.ShloMosaic.Lib.VecWindow
public import Idealize.ShloMosaic.Lib.WholeRead
public import Idealize.ShloMosaic.Lib.ValueLayout

@[expose] public section

set_option maxRecDepth 16384

noncomputable section

/-! # What a grid point leaves behind

The stored vectors of Block.lean read back: the accumulator after the first point, after a middle point, and the output
of the last point, each as a function of the staged block, the staged tail and the accumulator before. -/

namespace Cert.Proof.Step

open Idealize.ShloMosaic Idealize.ShloMosaic.TcCoe Idealize.ShloMosaic.ValueIdx
open Cert.KernelIdeal Cert.KernelIdeal.Gen
open Cert.Proof.Block

variable {F : FTy → Type} [FloatOps F]
variable (c : Dev nD) (i : grid0.Coords)
  (arg1 : Memref sig .tc .vmem S32x16384 .f32) (harg1 : arg1.IsWhole)
  (arg2 : Memref sig .tc .vmem S32x640 .f32) (harg2 : arg2.IsWhole)
  (arg3 : Memref sig .tc .vmem S32x128 .i32) (harg3 : arg3.IsWhole)
  (arg4 : Memref sig .tc .vmem S32x128 .f32) (harg4 : arg4.IsWhole)
  (arg5 : Memref sig .tc .vmem S32x128 .i32) (harg5 : arg5.IsWhole)
  (x0 : Vec F S32x16384 .f32) (x1 : Vec F S32x640 .f32) (xs0 : Vec F S32x128 .f32) (xs1 : Vec F S32x128 .i32)

/-- The carried accumulator is what its buffers hold. -/
theorem carried_eq : carried arg4 harg4 arg5 harg5 xs0 xs1 = (xs0, xs1) :=
  Prod.ext ((View.readAt_full _ _ _).trans (harg4.read_unread xs0)) ((View.readAt_full _ _ _).trans (harg5.read_unread xs1))

/-- The accumulator starts at minus infinity and zero. -/
theorem started_eq : started (F := F) arg4 arg5 = (low, zeros) :=
  Prod.ext (View.readCov_full (Val := Elt F) arg4.view inb_S32x128_S32x128_0_0 inb_S32x128_S32x128_0_0 low [])
    (View.readCov_full (Val := Elt F) arg5.view inb_S32x128_S32x128_0_0 inb_S32x128_S32x128_0_0 zeros [])

/-- The accumulator after the first point: the values, -/
theorem values_A (hc0 : cond0_0 i) (hc1 : cond0_1 i) (hc2 : ¬cond0_2 i) :
    sout0_A_0 c i arg1 harg1 arg2 harg2 arg3 harg3 arg4 harg4 arg5 harg5 hc0 hc1 hc2 x0 x1
      = (merged (slice arg1 harg1 c x0) (base i) (low, zeros)).1 := by
  unfold sout0_A_0
  rw [pieces0_A, View.read_writes_full, shapeCast_self, started_eq]

/-- and the indices. -/
theorem indices_A (hc0 : cond0_0 i) (hc1 : cond0_1 i) (hc2 : ¬cond0_2 i) :
    sout0_A_1 c i arg1 harg1 arg2 harg2 arg3 harg3 arg4 harg4 arg5 harg5 hc0 hc1 hc2 x0 x1
      = (merged (slice arg1 harg1 c x0) (base i) (low, zeros)).2 := by
  unfold sout0_A_1
  rw [pieces1_A, View.read_writes_full, shapeCast_self, started_eq]

/-- The accumulator after a middle point: the values, -/
theorem values_B (hc0 : ¬cond0_0 i) (hc1 : cond0_1 i) (hc2 : ¬cond0_2 i) :
    sout0_B_0 c i arg1 harg1 arg2 harg2 arg3 harg3 arg4 harg4 arg5 harg5 hc0 hc1 hc2 x0 x1 xs0 xs1
      = (merged (slice arg1 harg1 c x0) (base i) (xs0, xs1)).1 := by
  unfold sout0_B_0
  rw [pieces0_B, View.read_writes_full, shapeCast_self, carried_eq]

/-- and the indices. -/
theorem indices_B (hc0 : ¬cond0_0 i) (hc1 : cond0_1 i) (hc2 : ¬cond0_2 i) :
    sout0_B_1 c i arg1 harg1 arg2 harg2 arg3 harg3 arg4 harg4 arg5 harg5 hc0 hc1 hc2 x0 x1 xs0 xs1
      = (merged (slice arg1 harg1 c x0) (base i) (xs0, xs1)).2 := by
  unfold sout0_B_1
  rw [pieces1_B, View.read_writes_full, shapeCast_self, carried_eq]

/-- The output after the last point. -/
theorem output_C (hc0 : ¬cond0_0 i) (hc1 : ¬cond0_1 i) (hc2 : cond0_2 i) :
    out0_C_2 c i arg1 harg1 arg2 harg2 arg3 harg3 arg4 harg4 arg5 harg5 hc0 hc1 hc2 x0 x1 xs0 xs1
      = finish (withTail (tailSlice arg2 harg2 c x1) (merged (slice arg1 harg1 c x0) (base i) (xs0, xs1)) 5) := by
  unfold out0_C_2
  rw [pieces2_C, View.read_writes_full, carried_eq]

/-- A lane of a slice of the block. -/
theorem slice_apply {s : ℕ} (hs : s < 128) (r : Fin 32) (l : Fin 128) :
    slice arg1 harg1 c x0 s (ix2 r l) = x0 (ix2 r ⟨128 * s + l.val, by omega⟩) := by
  unfold slice
  rw [dif_pos hs, harg1.readAt_unread]
  congr 1
  funext a
  apply Fin.ext
  match a with
  | ⟨0, _⟩ => show 0 + 1 * r.val = r.val; omega
  | ⟨1, _⟩ => show 128 * s + 1 * l.val = 128 * s + l.val; omega

/-- A lane of a slice of the tail. -/
theorem tailSlice_apply {s : ℕ} (hs : s < 5) (r : Fin 32) (l : Fin 128) :
    tailSlice arg2 harg2 c x1 s (ix2 r l) = x1 (ix2 r ⟨128 * s + l.val, by omega⟩) := by
  unfold tailSlice
  rw [dif_pos hs]
  refine (congrFun (shapeCast_self _ _) _).trans ?_
  rw [harg2.readAt_unread]
  congr 1
  funext a
  apply Fin.ext
  match a with
  | ⟨0, _⟩ => show 0 + 1 * r.val = r.val; omega
  | ⟨1, _⟩ => show 128 * s + 1 * l.val = 128 * s + l.val; omega

end Cert.Proof.Step

end
-- ==== Proof.Acc.lean ====
module

public import proofs.«01_k».proof.Proof.Step
public import proofs.«01_k».proof.Proof.Finish
public import Idealize.ShloMosaic.Lib.StableHlo.RunClose
public import Idealize.ShloMosaic.Lib.WordCmp

@[expose] public section

set_option maxRecDepth 16384

noncomputable section

/-! # What the launch computes

The staged blocks and the staged tail as parts of the argument, the accumulator after each grid point, and the output of
the last one. -/

namespace Cert.Proof.Acc

open Idealize.ShloMosaic Idealize.ShloMosaic.TcCoe Idealize.ShloMosaic.ValueIdx Idealize.ShloMosaic.StableHlo
open Cert.KernelIdeal Cert.KernelIdeal.Gen
open Cert.Proof.Block Cert.Proof.Pick Cert.Proof.Lane Cert.Proof.Finish

section
variable {F : FTy → Type} [FloatOps F]
variable (m : (ℓ : Loc nD τ sig) → Buf (Elt F) ℓ)

/-- The grid has one axis: a point's coordinate is the point. -/
theorem coord_val (t : Fin cfg0.N) : (grid0.coords t 0).val = t.val := by
  have e0 : (grid0.coords t 0).val = t.val / 1 % 61 := Pipeline.Grid.coords_val t 0 (by decide) rfl
  have hN : t.val < 61 := lt_of_lt_of_eq t.isLt (show cfg0.N = 61 from N_0)
  omega

/-- A point's block starts at column 16384 times the point. -/
theorem base_eq (t : Fin cfg0.N) : base (grid0.coords t) = BitVec.ofNat 32 (16384 * t.val) := by
  unfold base
  rw [coord_val]
  show BitVec.ofNat 32 t.val * 16384#32 = _
  apply BitVec.eq_of_toNat_eq
  simp only [BitVec.toNat_mul, BitVec.toNat_ofNat]
  omega

/-- The staged block at a point is the argument's columns from there. -/
theorem block_apply (c : Dev nD) (t : Fin cfg0.N) (r : Fin 32) (q : ℕ) (hq : q < 16384)
    (h : 16384 * t.val + q < 1000000) :
    (X0_0 m c t : Vec F S32x16384 .f32) (ix2 r ⟨q, hq⟩)
      = m ((c.tc : Thread nD τ).loc main_arg0) (ix2 r ⟨16384 * t.val + q, h⟩) := by
  have hi : win0_0.index t 1 = t.val := by
    show (BitVec.ofNat 32 (grid0.coords t 0).val).toNat = t.val
    have hN : t.val < 61 := lt_of_lt_of_eq t.isLt (show cfg0.N = 61 from N_0)
    rw [coord_val, BitVec.toNat_ofNat, Nat.mod_eq_of_lt (by omega)]
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show 0 * 32 + 1 * r.val = r.val; omega
  | ⟨1, _⟩ => show win0_0.index t 1 * 16384 + 1 * q = 16384 * t.val + q; rw [hi]; omega

/-- The tail that the host builds: the last 576 columns over minus infinity. -/
theorem tail_buffer (c : Dev nD) :
    V m c main_call0_v2 = updateSlice
      (broadcastInDim S32x640 ![] bcast_S_S32x640 (constant S_ .f32 0xFF800000#32))
      (extractStridedSlice S32x576 ![0, 999424] (m ((c.tc : Thread nD τ).loc main_arg0)) slices_S32x1000000_S32x576_0_999424)
      ![0, 0] (by decide) := by
  unfold V V0
  simp only [List.flatten_cons, List.flatten_nil, List.append_nil]
  after_results_simp_entrywise
  refine WordCmp.dynamicUpdateSlice_eq_update _ _ _ updateFits_S32x640_S32x576 ![0, 0] (by decide) fun a => ?_
  match a with
  | ⟨0, _⟩ => rfl
  | ⟨1, _⟩ => rfl

/-- The staged tail at any point is the argument's last columns, then minus infinity. -/
theorem tail_apply (c : Dev nD) (t : Fin cfg0.N) (r : Fin 32) (q : ℕ) (hq : q < 640) :
    (iblk m c 1 t : Vec F S32x640 .f32) (ix2 r ⟨q, hq⟩)
      = if h : 999424 + q < 1000000 then m ((c.tc : Thread nD τ).loc main_arg0) (ix2 r ⟨999424 + q, h⟩)
        else FloatOps.ofBits .f32 0xFF800000#32 := by
  have hr : (iblk m c 1 t : Vec F S32x640 .f32) (ix2 r ⟨q, hq⟩) = V m c main_call0_v2 (ix2 r ⟨q, hq⟩) := by
    unfold iblk
    rw [View.read_apply]
    show V m c main_call0_v2 _ = _
    congr 1
    funext a
    apply Fin.ext
    match a with
    | ⟨0, _⟩ => show 0 * 32 + 1 * r.val = r.val; omega
    | ⟨1, _⟩ => show 0 * 640 + 1 * q = q; omega
  rw [hr, tail_buffer]
  unfold updateSlice
  by_cases h : 999424 + q < 1000000
  · rw [dif_pos h, dif_pos]
    · show m ((c.tc : Thread nD τ).loc main_arg0) _ = _
      congr 1
      funext a
      apply Fin.ext
      match a with
      | ⟨0, _⟩ => show 0 + (r.val - 0) = r.val; omega
      | ⟨1, _⟩ => show 999424 + (q - 0) = 999424 + q; omega
    · intro a
      match a with
      | ⟨0, _⟩ => show 0 ≤ r.val ∧ r.val < 0 + 32; omega
      | ⟨1, _⟩ => show 0 ≤ q ∧ q < 0 + 576; omega
  · rw [dif_neg h, dif_neg]
    · rfl
    · intro hin
      have h1 : 0 ≤ q ∧ q < 0 + 576 := hin 1
      omega

/-- The accumulator after the first point. -/
theorem after_first (c : Dev nD) (t : Fin cfg0.N) (h : t.val = 0) :
    (outsAt0 m c t.val t.isLt).2
      = merged (slice (ms0_0 t) (hs0_0 t) c (X0_0 m c t)) (base (grid0.coords t)) (low, zeros) := by
  rw [outsAt0_A m c t (by omega) (by omega) (by omega)]
  refine Prod.ext ?_ ?_
  · dsimp only
    exact Step.values_A (F := F) ..
  · dsimp only
    exact Step.indices_A (F := F) ..

/-- The accumulator after a middle point, over what it was before. -/
theorem after_middle (c : Dev nD) (t : Fin cfg0.N) (h : t.val ≠ 0) (h' : t.val < 60) :
    (outsAt0 m c t.val t.isLt).2
      = merged (slice (ms0_0 t) (hs0_0 t) c (X0_0 m c t)) (base (grid0.coords t))
          (outsAt0 m c (t.val - 1) (Nat.lt_of_le_of_lt (Nat.sub_le _ _) t.isLt)).2 := by
  rw [outsAt0_B m c t (by omega) h' (by omega)]
  refine Prod.ext ?_ ?_
  · dsimp only
    exact Step.values_B (F := F) ..
  · dsimp only
    exact Step.indices_B (F := F) ..

/-- The output of the last point, over what the accumulator was before. -/
theorem output_last (c : Dev nD) (t : Fin cfg0.N) (h : t.val = 60) :
    (outsAt0 m c t.val t.isLt).1
      = finish (withTail (tailSlice (ms0_1 t) (hs0_1 t) c (iblk m c 1 t))
          (merged (slice (ms0_0 t) (hs0_0 t) c (X0_0 m c t)) (base (grid0.coords t))
            (outsAt0 m c (t.val - 1) (Nat.lt_of_le_of_lt (Nat.sub_le _ _) t.isLt)).2) 5) := by
  rw [outsAt0_C m c t (by omega) (by omega) (by omega)]
  dsimp only
  exact Step.output_C (F := F) ..

end

/-! ## Over the extended reals -/

variable (m : (ℓ : Loc nD τ sig) → Buf (Elt Ideal) ℓ)

/-- The argument on a core. -/
abbrev arg (c : Dev nD) : S32x1000000.Idx → EReal := m ((c.tc : Thread nD τ).loc main_arg0)

/-- Merging a point's block into an accumulator that leads the slices before it. -/
theorem led_block (c : Dev nD) (t : Fin cfg0.N) (r : Fin 32) (l : Fin 128)
    (acc : FVec Ideal S32x128 .f32 × IVec S32x128 32)
    (h : Led (fun k => value (arg m c) r (128 * k + l.val)) (fun k => ctr r (128 * k + l.val)) (128 * t.val)
      (lane acc (ix2 r l))) :
    Led (fun k => value (arg m c) r (128 * k + l.val)) (fun k => ctr r (128 * k + l.val)) (128 * t.val + 128)
      (lane (merged (slice (ms0_0 t) (hs0_0 t) c (X0_0 m c t)) (base (grid0.coords t)) acc) (ix2 r l)) := by
  have hN : t.val < 61 := lt_of_lt_of_eq t.isLt (show cfg0.N = 61 from N_0)
  have hl := l.isLt
  refine led_merged (fun s hs => ?_) h
  have e : 128 * (128 * t.val + s) + l.val = 16384 * t.val + 128 * s + l.val := by omega
  rw [base_eq, e]
  refine entry_lane (arg m c) (16384 * t.val) s r l (by omega) ?_
  rw [Step.slice_apply c _ _ _ hs, block_apply m c t r _ (by omega) (by omega)]
  unfold col
  rw [dif_pos (by omega)]
  congr 2
  apply Fin.ext
  show 16384 * t.val + (128 * s + l.val) = 16384 * t.val + 128 * s + l.val
  omega

/-- The starting accumulator leads no slices. -/
theorem led_start (c : Dev nD) (r : Fin 32) (l : Fin 128) :
    Led (fun k => value (arg m c) r (128 * k + l.val)) (fun k => ctr r (128 * k + l.val)) 0
      (lane (low, zeros) (ix2 r l)) := by
  refine led_zero _ _ ?_
  show Ideal.ofBits .f32 0xFF800000#32 = ⊥
  simp [Ideal.ofBits, Ideal.ieee]

/-- After each point but the last the accumulator leads the slices of the blocks so far. -/
theorem led_after (c : Dev nD) (r : Fin 32) (l : Fin 128) : ∀ (n : ℕ) (hn : n < cfg0.N), n < 60 →
    Led (fun k => value (arg m c) r (128 * k + l.val)) (fun k => ctr r (128 * k + l.val)) (128 * n + 128)
      (lane (outsAt0 m c n hn).2 (ix2 r l))
  | 0, hn, _ => by
    rw [after_first m c ⟨0, hn⟩ rfl]
    exact led_block m c ⟨0, hn⟩ r l _ (led_start m c r l)
  | n + 1, hn, h => by
    rw [after_middle m c ⟨n + 1, hn⟩ (Nat.succ_ne_zero n) h]
    exact led_block m c ⟨n + 1, hn⟩ r l _ (led_after c r l n (Nat.lt_of_succ_lt hn) (by omega))

/-- The output at the last point: in every lane of a row of which some score is above minus infinity, the place of the
first column with the row's greatest score. -/
theorem output_apply (c : Dev nD) (t : Fin cfg0.N) (h : t.val = 60) (r : Fin 32) {q : ℕ} (hq : First (arg m c) r q)
    (hb : value (arg m c) r q ≠ ⊥) (l : Fin 128) :
    (outsAt0 m c t.val t.isLt).1 (ix2 r l) = BitVec.ofNat 32 (1000000 * r.val + q) := by
  rw [output_last m c t h]
  refine finish_apply (fun l => ?_) hq hb l
  have hl := l.isLt
  refine led_withTail (off := 7808) 5 (fun s hs => ?_) ?_
  · have e : 128 * (7808 + s) + l.val = 999424 + 128 * s + l.val := by omega
    rw [e]
    refine entry_lane (arg m c) 999424 s r l (by omega) ?_
    rw [Step.tailSlice_apply c _ _ _ hs, tail_apply m c t r _ (by omega)]
    unfold col
    have e' : 999424 + (128 * s + l.val) = 999424 + 128 * s + l.val := by omega
    by_cases hc : 999424 + 128 * s + l.val < 1000000
    · rw [dif_pos hc, dif_pos (by omega)]
      congr 2
      exact Fin.ext e'
    · rw [dif_neg hc, dif_neg (by omega)]
      show Ideal.ofBits .f32 0xFF800000#32 = ⊥
      simp [Ideal.ofBits, Ideal.ieee]
  · have hm := led_block m c t r l (outsAt0 m c (t.val - 1) (Nat.lt_of_le_of_lt (Nat.sub_le _ _) t.isLt)).2 (by
      have := led_after m c r l (t.val - 1) (Nat.lt_of_le_of_lt (Nat.sub_le _ _) t.isLt) (by omega)
      rwa [show 128 * (t.val - 1) + 128 = 128 * t.val by omega] at this)
    rwa [show 128 * t.val + 128 = 7808 by omega] at hm

end Cert.Proof.Acc

end
-- ==== Proof.KernelRun.lean ====
module

public import proofs.«01_k».proof.Proof.Acc

@[expose] public section

set_option maxRecDepth 16384

noncomputable section

/-! # The kernel's result

The output of the last grid point is the array the launch leaves behind. The operations after the launch take its first
column and subtract the number of the row's first count. -/

namespace Cert.Proof.KernelRun

open Idealize.ShloMosaic Idealize.ShloMosaic.TcCoe Idealize.ShloMosaic.ValueIdx Idealize.ShloMosaic.StableHlo
open Idealize.ShloMosaic.Pipeline
open Cert.KernelIdeal Cert.KernelIdeal.Gen
open Cert.Proof.Lane Cert.Proof.Finish Cert.Proof.Acc

section
variable {F : FTy → Type} [FloatOps F]
variable (m : (ℓ : Loc nD τ sig) → Buf (Elt F) ℓ)

/-- The last grid point. -/
def last : Fin cfg0.N := ⟨60, by rw [show cfg0.N = 61 from N_0]; decide⟩

/-- The output block of the last grid point. -/
def out (c : Dev nD) : IVec S32x128 32 := (outsAt0 m c last.val last.isLt).1

/-- Only the last point writes its block back, and what it writes is its output block, whole. -/
theorem flushed_out (c : Dev nD) (t : Fin cfg0.N) (hf : (cfg0.win 2).flush t = true) :
    (dats m 0 c).flushed 2 t = ((cfg0.win 2).blk t).view.read (Elt F) (out m c) := by
  have hN : cfg0.N = 61 := N_0
  obtain rfl : t = last := Fin.ext (by
    have h1 := (flush0_2 t).mp hf
    have h2 := t.isLt
    show t.val = 60
    omega)
  show (cfg0.win 2).cut (grid0.coords last) ((dats m 0 c).after 2 last) = _
  have e : (dats m 0 c).after 2 last = out m c := after0_2 m c last
  rw [e]
  generalize out m c = o
  have hz : (fun a => win0_2.index last a * main_call0_v3.ty.shape.size a) = fun _ => 0 :=
    funext fun a => by fin_cases a <;> rfl
  exact (Memref.read_access_unit_zero (Elt F) main_call0_v3 hz (fun a => by rw [congrFun hz a]; simp) o).symm

/-- The launch leaves the last point's output block in its result array. -/
theorem array_out (c : Dev nD) : (dats m 0 c).arrAt 2 cfg0.N = out m c :=
  (dats m 0 c).arrAt_eq_of_cover 2 (out m c) (flushed_out m c) fun i =>
    ⟨last, (flush0_2 last).mpr rfl, by
      show i ∈ ((View.whole main_call0_v3).slice (win0_2.rect last)).set
      rw [View.set_slice_whole, Rect.mem_set_unit]
      intro a
      have h := (i a).isLt
      fin_cases a
      · exact ⟨Nat.zero_le _, lt_of_lt_of_eq h (show 32 = 0 * 32 + 32 from rfl)⟩
      · exact ⟨Nat.zero_le _, lt_of_lt_of_eq h (show 128 = 0 * 128 + 128 from rfl)⟩⟩

/-- The result from the launch's array: its first column less a million times the row. -/
def answer (o : IVec S32x128 32) : IVec S32 32 :=
  subi (shapeCast S32 (extractStridedSlice S32x1 ![0, 0] o slices_S32x128_S32x1_0_0) shapeCasts_S32x1_S32)
    (muli (iotaInDim S32 32 0) (broadcastInDim S32 ![] bcast_S_S32 (constantI S_ 32 1000000#32)))

/-- The operations after the launch compute `answer` of the launch's array. -/
theorem after_tail (c : Dev nD) :
    afterTail₀ cfgs (dats m) 0 (V0 m) [hostOps1] c main_v0 = answer (out m c) := by
  have e : ∀ V : Valuation τ sig (Elt F), StableHlo.after ([hostOps1] : List (List (HloOp τ sig (Elt F)))).flatten V (Proc.devRef .tc main_v0)
      = answer (V (Proc.devRef .tc main_call0_v3)) := by
    intro V
    show StableHlo.after (hostOps1 ++ []) V (Proc.devRef .tc main_v0) = _
    rw [List.append_nil]
    after_results_simp
    rfl
  refine (e _).trans (congrArg answer ?_)
  refine (withArrays_arr_shared spec0 c _ _ ?_ 2).trans (array_out m c)
  intro w w' hne h
  exact absurd h (by revert hne; revert w w'; decide)

/-- Entry `r` of the result is entry `(r, 0)` of the launch's array less a million times `r`. -/
theorem answer_apply (o : IVec S32x128 32) (r : Fin 32) :
    answer o (ix1 r) = o (ix2 r 0) - BitVec.ofNat 32 r.val * 1000000#32 := by
  show o _ - _ = _
  refine congrArg₂ (· - ·) (congrArg o ?_) rfl
  revert r
  decide

end

/-- THE KERNEL'S RESULT: entry `r` is the first column of the row's greatest value. -/
theorem answer_first (m : (ℓ : Loc nD τ sig) → Buf (Elt Ideal) ℓ) (c : Dev nD) (r : Fin 32) {q : ℕ}
    (hq : First (arg m c) r q) (hb : value (arg m c) r q ≠ ⊥) :
    answer (out m c) (ix1 r) = BitVec.ofNat 32 q := by
  rw [answer_apply]
  unfold out
  rw [output_apply m c last rfl r hq hb 0, BitVec.ofNat_add, Nat.mul_comm, BitVec.ofNat_mul]
  rw [BitVec.add_comm, BitVec.add_sub_cancel]

/-- The kernel's run: every result buffer ends at `answer` of the last output block, and the argument is unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = answer (out m c)
        ∧ r.2.mem ((c.tc : Thread nD τ).loc main_arg0) = m ((c.tc : Thread nD τ).loc main_arg0) :=
  (θ_run defs _ _).mono (fun _ h c =>
    ⟨((h c).2 main_v0 (mem_restRefs_of main_v0 (by decide) (by decide))).trans (after_tail m c),
      ((h c).1 0).trans (((dats m 0 c).arrAt_in 0 rfl _).trans ((A_eq m c 0).trans (V_main_arg0 m c)))⟩) (run_main m ρ)

end Cert.Proof.KernelRun
-- ==== Proof.Agree.lean ====
module

public import proofs.«01_k».proof.Proof.Mask
public import proofs.«01_k».proof.Proof.KernelRun

@[expose] public section

set_option maxRecDepth 16384

noncomputable section

/-! # The two programs agree

On the rows with weight both programs give the first column of the row's greatest score. -/

namespace Cert.Proof.Agree

open Idealize.ShloMosaic Idealize.ShloMosaic.TcCoe Idealize.ShloMosaic.ValueIdx Idealize.ShloMosaic.StableHlo
open Cert.Proof.Finish Cert.Proof.Lane

section
variable [Cert.On_rows_with_weight.Facts]

/-- On a row with weight the kernel's answer is the reference's choice. -/
theorem answer_eq_choice (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (hV : V (Cert.ReferenceIdeal.main_arg0 : DevRef Cert.ReferenceIdeal.τ Cert.ReferenceIdeal.sig) = Acc.arg m c)
    (i : (⟨1, ![32]⟩ : Shape).Idx) (hi : Cert.On_rows_with_weight.fn (F := Ideal) (Acc.arg m c) i = 1#1) :
    KernelRun.answer (KernelRun.out m c) i = RefValue.choice (RefValue.scores V) i := by
  obtain ⟨r, rfl⟩ : ∃ r : Fin 32, i = ix1 r := ⟨i 0, eq_ix1 i⟩
  obtain ⟨q, hq⟩ := Argmax.first_exists (Acc.arg m c) r
  have hb := Mask.value_ne_bot hi hq
  have hs : ∀ k : Fin 1000000, RefValue.scores V (ix2 r k) = value (Acc.arg m c) r k.val := by
    intro k
    rw [← hV]
    exact RefValue.scores_value V r k
  exact (KernelRun.answer_first m c r hq hb).trans (Argmax.choice_first hs hq hb).symm

end

end Cert.Proof.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_rows_with_weight
public import proofs.«01_k».proof.Proof.Agree
public import Idealize.ShloMosaic.Adequacy
public import Idealize.ShloMosaic.Init

@[expose] public section

noncomputable section

namespace Cert.Proof

open Idealize.ShloMosaic Idealize.SL.Sem Cert.Kernel

/-- On the rows with weight the kernel and the reference, run on one argument, give one result, and both leave the
    argument as it was. -/
theorem algebraic : @Cert.algebraic_KernelIdeal_ReferenceIdeal_on_rows_with_weight Cert.KernelIdeal.Gen.facts
    Cert.ReferenceIdeal.Gen.facts Cert.On_rows_with_weight.Gen.facts := by
  intro m g m' g' _ hm
  refine ⟨fun c => KernelRun.answer (KernelRun.out m c), ?_, ?_⟩
  · exact (θ_run _ _ _).mono (fun r h c => ⟨fun i _ => congrFun (h c).1 i, (h c).2⟩) (KernelRun.run m g)
  · refine (θ_run _ _ _).mono (fun r h c => ⟨fun i hi => ?_, ?_⟩) (RefRun.run_after m' g')
    · refine (congrFun ((h c Cert.ReferenceIdeal.main_v196).trans (RefValue.result_choice _)) i).trans ?_
      exact (Agree.answer_eq_choice m c _ (hm c) i hi).symm
    · exact (h c Cert.ReferenceIdeal.main_arg0).trans (RefRun.arg0_keeps _)

/-- Every claim of the certificate. -/
theorem claim : Cert.Claim :=
  ⟨Cert.Kernel.Gen.facts, Cert.KernelIdeal.Gen.facts, Cert.ReferenceIdeal.Gen.facts, Cert.On_rows_with_weight.Gen.facts,
    fun m ρ _ => Cert.Kernel.Gen.frame m ρ, fun m ρ _ => Cert.KernelIdeal.Gen.frame m ρ, fun m ρ _ => RefRun.frame m ρ,
    trivial, algebraic⟩

end Cert.Proof

end
